-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![2048, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S2x2x128x1024 : Shape := ⟨4, ![2, 2, 128, 1024]⟩
abbrev S6x2 : Shape := ⟨2, ![6, 2]⟩
abbrev S2x2x2 : Shape := ⟨3, ![2, 2, 2]⟩
abbrev S_ : Shape := ⟨0, ![]⟩
abbrev S128x512 : Shape := ⟨2, ![128, 512]⟩
abbrev S128x1024 : Shape := ⟨2, ![128, 1024]⟩
abbrev S1x1x128x1024 : Shape := ⟨4, ![1, 1, 128, 1024]⟩
abbrev S1x1 : Shape := ⟨2, ![1, 1]⟩
abbrev S1x1x1 : Shape := ⟨3, ![1, 1, 1]⟩

abbrev nBuf : Space → Nat
  | .hbm => 3
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .f32⟩
  | .local _ .vmem, ⟨0, _⟩ => ⟨S1024x512, .f32⟩
  | .local _ .vmem, ⟨1, _⟩ => ⟨S512x1024, .f32⟩
  | .local _ .vmem, ⟨2, _⟩ => ⟨S1024x1024, .f32⟩
  | .local _ .vmem, ⟨3, _⟩ => ⟨S2x2x128x1024, .bf16⟩
  | .local _ .vmem, ⟨4, _⟩ => ⟨S2x2x128x1024, .bf16⟩
  | .local _ .vmem, ⟨5, _⟩ => ⟨S2x2x128x1024, .bf16⟩
  | .local _ .vmem, ⟨6, _⟩ => ⟨S2x2x128x1024, .bf16⟩
  | .local _ .vmem, ⟨7, _⟩ => ⟨S2x2x128x1024, .bf16⟩
  | .local _ .vmem, ⟨8, _⟩ => ⟨S2x2x128x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_26 : BitVec 32 := 1#32
  let v54 : BitVec 32 := Scalar.muli v32 c1_i32_26
  let v55 : BitVec 32 := Scalar.addi c0_i32_27 v54
  v55.toNat
def k0_dev2 (d0 : Dev nD) : Nat :=
  let c0_i32_30 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_29 : BitVec 32 := 1#32
  let v56 : BitVec 32 := Scalar.muli v33 c1_i32_29
  let v57 : BitVec 32 := Scalar.addi c0_i32_30 v56
  v57.toNat
def k0_off1 (d0 : Dev nD) (c0_i32_32 : BitVec 32) : Fin 2 → Nat :=
  let c1_i32_19 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v34 : BitVec 32 := Scalar.addi v12 v29
  let c2_i32_13 : BitVec 32 := 2#32
  let c0_i32_14 : BitVec 32 := 0#32
  let v35 : BitVec 1 := Scalar.cmpi .eq c2_i32_13 c0_i32_14
  let c1_i32_15 : BitVec 32 := 1#32
  let v36 : BitVec 32 := Scalar.select v35 c1_i32_15 c2_i32_13
  let v37 : BitVec 32 := Scalar.remsi v34 v36
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let c0_i32_16 : BitVec 32 := 0#32
  let v38 : BitVec 1 := Scalar.cmpi .ne v37 c0_i32_16
  let v42 : BitVec 1 := Scalar.andi v41 v38
  let v43 : BitVec 32 := Scalar.addi v37 v36
  let v44 : BitVec 32 := Scalar.select v42 v43 v37
  let v45 : BitVec 32 := Scalar.subi c1_i32_19 v44
  let c256_i32 : BitVec 32 := 256#32
  let v46 : BitVec 32 := Scalar.muli v45 c256_i32
  let v58 : BitVec 32 := Scalar.addi v46 c0_i32_32
  let v59 : Index := Scalar.indexCast v58
  let c0 : Index := 0#32
  ![v59.toNat, 0]
def k0_dev3 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_49 : BitVec 32 := 1#32
  let v71 : BitVec 32 := Scalar.muli v32 c1_i32_49
  let v72 : BitVec 32 := Scalar.addi c0_i32_50 v71
  v72.toNat
def k0_off2 (d0 : Dev nD) (c0_i32_55 : BitVec 32) : Fin 2 → Nat :=
  let c512_i32 : BitVec 32 := 512#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v48 : BitVec 32 := Scalar.subi c1_i32_21 v29
  let c256_i32_22 : BitVec 32 := 256#32
  let v49 : BitVec 32 := Scalar.muli v48 c256_i32_22
  let v50 : BitVec 32 := Scalar.addi c512_i32 v49
  let v81 : BitVec 32 := Scalar.addi v50 c0_i32_55
  let v82 : Index := Scalar.indexCast v81
  let c0_56 : Index := 0#32
  ![v82.toNat, 0]
def k0_dev4 (d0 : Dev nD) : Nat :=
  let c0_i32_75 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_74 : BitVec 32 := 1#32
  let v94 : BitVec 32 := Scalar.muli v33 c1_i32_74
  let v95 : BitVec 32 := Scalar.addi c0_i32_75 v94
  v95.toNat
def k0_dev5 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_98 : BitVec 32 := 1#32
  let v117 : BitVec 32 := Scalar.muli v32 c1_i32_98
  let v118 : BitVec 32 := Scalar.addi c0_i32_99 v117
  v118.toNat
def k0_dev6 (d0 : Dev nD) : Nat :=
  let c0_i32_124 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_123 : BitVec 32 := 1#32
  let v140 : BitVec 32 := Scalar.muli v33 c1_i32_123
  let v141 : BitVec 32 := Scalar.addi c0_i32_124 v140
  v141.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v34 : BitVec 32 := Scalar.addi v12 v29
  let c2_i32_13 : BitVec 32 := 2#32
  let c0_i32_14 : BitVec 32 := 0#32
  let v35 : BitVec 1 := Scalar.cmpi .eq c2_i32_13 c0_i32_14
  let c1_i32_15 : BitVec 32 := 1#32
  let v36 : BitVec 32 := Scalar.select v35 c1_i32_15 c2_i32_13
  let v37 : BitVec 32 := Scalar.remsi v34 v36
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let c0_i32_16 : BitVec 32 := 0#32
  let v38 : BitVec 1 := Scalar.cmpi .ne v37 c0_i32_16
  let v42 : BitVec 1 := Scalar.andi v41 v38
  let v43 : BitVec 32 := Scalar.addi v37 v36
  let v44 : BitVec 32 := Scalar.select v42 v43 v37
  let c256_i32_20 : BitVec 32 := 256#32
  let v47 : BitVec 32 := Scalar.muli v44 c256_i32_20
  let v150 : Index := Scalar.indexCast v47
  let c0_129 : Index := 0#32
  ![v150.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v34 : BitVec 32 := Scalar.addi v12 v29
  let c2_i32_13 : BitVec 32 := 2#32
  let c0_i32_14 : BitVec 32 := 0#32
  let v35 : BitVec 1 := Scalar.cmpi .eq c2_i32_13 c0_i32_14
  let c1_i32_15 : BitVec 32 := 1#32
  let v36 : BitVec 32 := Scalar.select v35 c1_i32_15 c2_i32_13
  let v37 : BitVec 32 := Scalar.remsi v34 v36
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let c0_i32_16 : BitVec 32 := 0#32
  let v38 : BitVec 1 := Scalar.cmpi .ne v37 c0_i32_16
  let v42 : BitVec 1 := Scalar.andi v41 v38
  let v43 : BitVec 32 := Scalar.addi v37 v36
  let v44 : BitVec 32 := Scalar.select v42 v43 v37
  let c256_i32_20 : BitVec 32 := 256#32
  let v47 : BitVec 32 := Scalar.muli v44 c256_i32_20
  let v156 : Index := Scalar.indexCast v47
  let c0_133 : Index := 0#32
  ![v156.toNat, 0]
def k0_off5 (d0 : Dev nD) : Fin 2 → Nat :=
  let c512_i32_24 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_23 : BitVec 32 := 256#32
  let v51 : BitVec 32 := Scalar.muli v29 c256_i32_23
  let v52 : BitVec 32 := Scalar.addi c512_i32_24 v51
  let v160 : Index := Scalar.indexCast v52
  let c0_134 : Index := 0#32
  ![v160.toNat, 0]
def k0_off6 (d0 : Dev nD) : Fin 2 → Nat :=
  let c512_i32_24 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_23 : BitVec 32 := 256#32
  let v51 : BitVec 32 := Scalar.muli v29 c256_i32_23
  let v52 : BitVec 32 := Scalar.addi c512_i32_24 v51
  let v166 : Index := Scalar.indexCast v52
  let c0_138 : Index := 0#32
  ![v166.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v34 : BitVec 32 := Scalar.addi v12 v29
  let c2_i32_13 : BitVec 32 := 2#32
  let c0_i32_14 : BitVec 32 := 0#32
  let v35 : BitVec 1 := Scalar.cmpi .eq c2_i32_13 c0_i32_14
  let c1_i32_15 : BitVec 32 := 1#32
  let v36 : BitVec 32 := Scalar.select v35 c1_i32_15 c2_i32_13
  let v37 : BitVec 32 := Scalar.remsi v34 v36
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let c0_i32_16 : BitVec 32 := 0#32
  let v38 : BitVec 1 := Scalar.cmpi .ne v37 c0_i32_16
  let v42 : BitVec 1 := Scalar.andi v41 v38
  let v43 : BitVec 32 := Scalar.addi v37 v36
  let v44 : BitVec 32 := Scalar.select v42 v43 v37
  let c256_i32_20 : BitVec 32 := 256#32
  let v47 : BitVec 32 := Scalar.muli v44 c256_i32_20
  let c128_i32_139 : BitVec 32 := 128#32
  let v170 : BitVec 32 := Scalar.addi v47 c128_i32_139
  let v171 : Index := Scalar.indexCast v170
  let c0_140 : Index := 0#32
  ![v171.toNat, 0]
def k0_off8 (d0 : Dev nD) (c128_i32_139 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v34 : BitVec 32 := Scalar.addi v12 v29
  let c2_i32_13 : BitVec 32 := 2#32
  let c0_i32_14 : BitVec 32 := 0#32
  let v35 : BitVec 1 := Scalar.cmpi .eq c2_i32_13 c0_i32_14
  let c1_i32_15 : BitVec 32 := 1#32
  let v36 : BitVec 32 := Scalar.select v35 c1_i32_15 c2_i32_13
  let v37 : BitVec 32 := Scalar.remsi v34 v36
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let c0_i32_16 : BitVec 32 := 0#32
  let v38 : BitVec 1 := Scalar.cmpi .ne v37 c0_i32_16
  let v42 : BitVec 1 := Scalar.andi v41 v38
  let v43 : BitVec 32 := Scalar.addi v37 v36
  let v44 : BitVec 32 := Scalar.select v42 v43 v37
  let c256_i32_20 : BitVec 32 := 256#32
  let v47 : BitVec 32 := Scalar.muli v44 c256_i32_20
  let v170 : BitVec 32 := Scalar.addi v47 c128_i32_139
  let v177 : Index := Scalar.indexCast v170
  let c0_144 : Index := 0#32
  ![v177.toNat, 0]
def k0_off9 (d0 : Dev nD) : Fin 2 → Nat :=
  let c512_i32_24 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_23 : BitVec 32 := 256#32
  let v51 : BitVec 32 := Scalar.muli v29 c256_i32_23
  let v52 : BitVec 32 := Scalar.addi c512_i32_24 v51
  let c128_i32_145 : BitVec 32 := 128#32
  let v181 : BitVec 32 := Scalar.addi v52 c128_i32_145
  let v182 : Index := Scalar.indexCast v181
  let c0_146 : Index := 0#32
  ![v182.toNat, 0]
def k0_off10 (d0 : Dev nD) (c128_i32_145 : BitVec 32) : Fin 2 → Nat :=
  let c512_i32_24 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_23 : BitVec 32 := 256#32
  let v51 : BitVec 32 := Scalar.muli v29 c256_i32_23
  let v52 : BitVec 32 := Scalar.addi c512_i32_24 v51
  let v181 : BitVec 32 := Scalar.addi v52 c128_i32_145
  let v188 : Index := Scalar.indexCast v181
  let c0_150 : Index := 0#32
  ![v188.toNat, 0]
def k0_dev7 (d0 : Dev nD) : Nat :=
  let c0_i32_184 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_183 : BitVec 32 := 1#32
  let v211 : BitVec 32 := Scalar.muli v33 c1_i32_183
  let v212 : BitVec 32 := Scalar.addi c0_i32_184 v211
  v212.toNat
def k0_dev8 (d0 : Dev nD) : Nat :=
  let c0_i32_222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_221 : BitVec 32 := 1#32
  let v244 : BitVec 32 := Scalar.muli v32 c1_i32_221
  let v245 : BitVec 32 := Scalar.addi c0_i32_222 v244
  v245.toNat
def k0_dev9 (d0 : Dev nD) : Nat :=
  let c0_i32_261 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_260 : BitVec 32 := 1#32
  let v277 : BitVec 32 := Scalar.muli v33 c1_i32_260
  let v278 : BitVec 32 := Scalar.addi c0_i32_261 v277
  v278.toNat
def k0_dev10 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_299 : BitVec 32 := 1#32
  let v310 : BitVec 32 := Scalar.muli v32 c1_i32_299
  let v311 : BitVec 32 := Scalar.addi c0_i32_300 v310
  v311.toNat
def k0_dev11 (d0 : Dev nD) : Nat :=
  let c0_i32_340 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_339 : BitVec 32 := 1#32
  let v347 : BitVec 32 := Scalar.muli v32 c1_i32_339
  let v348 : BitVec 32 := Scalar.addi c0_i32_340 v347
  v348.toNat
def k0_off11 (d0 : Dev nD) (c0_i32_306 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v34 : BitVec 32 := Scalar.addi v12 v29
  let c2_i32_13 : BitVec 32 := 2#32
  let c0_i32_14 : BitVec 32 := 0#32
  let v35 : BitVec 1 := Scalar.cmpi .eq c2_i32_13 c0_i32_14
  let c1_i32_15 : BitVec 32 := 1#32
  let v36 : BitVec 32 := Scalar.select v35 c1_i32_15 c2_i32_13
  let v37 : BitVec 32 := Scalar.remsi v34 v36
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let c0_i32_16 : BitVec 32 := 0#32
  let v38 : BitVec 1 := Scalar.cmpi .ne v37 c0_i32_16
  let v42 : BitVec 1 := Scalar.andi v41 v38
  let v43 : BitVec 32 := Scalar.addi v37 v36
  let v44 : BitVec 32 := Scalar.select v42 v43 v37
  let c256_i32_20 : BitVec 32 := 256#32
  let v47 : BitVec 32 := Scalar.muli v44 c256_i32_20
  let v324 : BitVec 32 := Scalar.addi v47 c0_i32_306
  let c0_i32_348 : BitVec 32 := 0#32
  ![v324.toNat, 0]
def k0_dev12 (d0 : Dev nD) : Nat :=
  let c0_i32_384 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_383 : BitVec 32 := 1#32
  let v384 : BitVec 32 := Scalar.muli v33 c1_i32_383
  let v385 : BitVec 32 := Scalar.addi c0_i32_384 v384
  v385.toNat
def k0_off12 (d0 : Dev nD) (c0_i32_350 : BitVec 32) : Fin 2 → Nat :=
  let c512_i32_24 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_23 : BitVec 32 := 256#32
  let v51 : BitVec 32 := Scalar.muli v29 c256_i32_23
  let v52 : BitVec 32 := Scalar.addi c512_i32_24 v51
  let v361 : BitVec 32 := Scalar.addi v52 c0_i32_350
  let c0_i32_392 : BitVec 32 := 0#32
  ![v361.toNat, 0]
def k0_dev13 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_426 : BitVec 32 := 1#32
  let v421 : BitVec 32 := Scalar.muli v32 c1_i32_426
  let v422 : BitVec 32 := Scalar.addi c0_i32_427 v421
  v422.toNat
def k0_dev14 (d0 : Dev nD) : Nat :=
  let c0_i32_471 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_470 : BitVec 32 := 1#32
  let v458 : BitVec 32 := Scalar.muli v33 c1_i32_470
  let v459 : BitVec 32 := Scalar.addi c0_i32_471 v458
  v459.toNat
def k0_off13 (d0 : Dev nD) (c0_i32_495 : BitVec 32) : Fin 2 → Nat :=
  let c1_i32_19 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v34 : BitVec 32 := Scalar.addi v12 v29
  let c2_i32_13 : BitVec 32 := 2#32
  let c0_i32_14 : BitVec 32 := 0#32
  let v35 : BitVec 1 := Scalar.cmpi .eq c2_i32_13 c0_i32_14
  let c1_i32_15 : BitVec 32 := 1#32
  let v36 : BitVec 32 := Scalar.select v35 c1_i32_15 c2_i32_13
  let v37 : BitVec 32 := Scalar.remsi v34 v36
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let c0_i32_16 : BitVec 32 := 0#32
  let v38 : BitVec 1 := Scalar.cmpi .ne v37 c0_i32_16
  let v42 : BitVec 1 := Scalar.andi v41 v38
  let v43 : BitVec 32 := Scalar.addi v37 v36
  let v44 : BitVec 32 := Scalar.select v42 v43 v37
  let v45 : BitVec 32 := Scalar.subi c1_i32_19 v44
  let c256_i32 : BitVec 32 := 256#32
  let v46 : BitVec 32 := Scalar.muli v45 c256_i32
  let v480 : BitVec 32 := Scalar.addi v46 c0_i32_495
  let v484 : Index := Scalar.indexCast v480
  let c0_500 : Index := 0#32
  ![v484.toNat, 0]
def k0_off14 (d0 : Dev nD) (c0_i32_495 : BitVec 32) : Fin 2 → Nat :=
  let c1_i32_19 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v34 : BitVec 32 := Scalar.addi v12 v29
  let c2_i32_13 : BitVec 32 := 2#32
  let c0_i32_14 : BitVec 32 := 0#32
  let v35 : BitVec 1 := Scalar.cmpi .eq c2_i32_13 c0_i32_14
  let c1_i32_15 : BitVec 32 := 1#32
  let v36 : BitVec 32 := Scalar.select v35 c1_i32_15 c2_i32_13
  let v37 : BitVec 32 := Scalar.remsi v34 v36
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let c0_i32_16 : BitVec 32 := 0#32
  let v38 : BitVec 1 := Scalar.cmpi .ne v37 c0_i32_16
  let v42 : BitVec 1 := Scalar.andi v41 v38
  let v43 : BitVec 32 := Scalar.addi v37 v36
  let v44 : BitVec 32 := Scalar.select v42 v43 v37
  let v45 : BitVec 32 := Scalar.subi c1_i32_19 v44
  let c256_i32 : BitVec 32 := 256#32
  let v46 : BitVec 32 := Scalar.muli v45 c256_i32
  let v480 : BitVec 32 := Scalar.addi v46 c0_i32_495
  let c0_i32_504 : BitVec 32 := 0#32
  ![v480.toNat, 0]
def k0_off15 (d0 : Dev nD) (c0_i32_520 : BitVec 32) : Fin 2 → Nat :=
  let c512_i32 : BitVec 32 := 512#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v48 : BitVec 32 := Scalar.subi c1_i32_21 v29
  let c256_i32_22 : BitVec 32 := 256#32
  let v49 : BitVec 32 := Scalar.muli v48 c256_i32_22
  let v50 : BitVec 32 := Scalar.addi c512_i32 v49
  let v500 : BitVec 32 := Scalar.addi v50 c0_i32_520
  let v504 : Index := Scalar.indexCast v500
  let c0_525 : Index := 0#32
  ![v504.toNat, 0]
def k0_off16 (d0 : Dev nD) (c0_i32_520 : BitVec 32) : Fin 2 → Nat :=
  let c512_i32 : BitVec 32 := 512#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v48 : BitVec 32 := Scalar.subi c1_i32_21 v29
  let c256_i32_22 : BitVec 32 := 256#32
  let v49 : BitVec 32 := Scalar.muli v48 c256_i32_22
  let v50 : BitVec 32 := Scalar.addi c512_i32 v49
  let v500 : BitVec 32 := Scalar.addi v50 c0_i32_520
  let c0_i32_529 : BitVec 32 := 0#32
  ![v500.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x1024, .f32⟩
  | .hbm, ⟨2, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Geom.lean ====
/- Where everything lies: the two partners of a device, the twelve transfers between devices, the row blocks a
   device keeps and sends, the slots and row blocks as memrefs, and the semaphores each operation names. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Work

open Cert.KernelIdeal Cert.KernelIdeal.Gen
open Idealize.ShloMosaic Idealize.ShloMosaic.TcCoe
open Idealize.SL Idealize.SL.RA Idealize.SL.BI Idealize.SL.Sem

/-! ## Partners -/

/-- The partner whose number differs in the low bit. -/
def pa (c : Dev nD) : Dev nD := ⟨c.val + 1 - 2 * (c.val % 2), by have := c.isLt; simp only [nD] at *; omega⟩
/-- The partner at the mirrored number. -/
def pb (c : Dev nD) : Dev nD := ⟨3 - c.val, by simp only [nD]; omega⟩

/-- Transfer `k = 4 * g + 2 * p + h` of stage `g`, piece `p`, half `h` goes to the low-bit partner when `g + h` is even. -/
def toA (k : Fin 12) : Bool := (k.val / 4 + k.val % 2) % 2 == 0
/-- The device at the other end of transfer `k`. -/
def peer (k : Fin 12) (c : Dev nD) : Dev nD := if toA k then pa c else pb c

theorem pa_pa : ∀ c, pa (pa c) = c := by decide
theorem pb_pb : ∀ c, pb (pb c) = c := by decide
theorem pa_ne_pb : ∀ c, pa c ≠ pb c := by decide
theorem peer_peer : ∀ k c, peer k (peer k c) = c := by decide
/-- Exchanging the two ends of transfer `k`. -/
def peerE (k : Fin 12) : Equiv.Perm (Dev nD) := ⟨peer k, peer k, peer_peer k, peer_peer k⟩
def paE : Equiv.Perm (Dev nD) := ⟨pa, pa, pa_pa, pa_pa⟩
def pbE : Equiv.Perm (Dev nD) := ⟨pb, pb, pb_pb, pb_pb⟩

theorem dev1_eq : ∀ d : Dev nD, (⟨k0_dev1 d, k0_dev1_lt d⟩ : Dev nD) = pa d := by decide +kernel
theorem dev2_eq : ∀ d : Dev nD, (⟨k0_dev2 d, k0_dev2_lt d⟩ : Dev nD) = pb d := by decide +kernel
theorem dev3_eq : ∀ d : Dev nD, (⟨k0_dev3 d, k0_dev3_lt d⟩ : Dev nD) = peer 0 d := by decide +kernel
theorem dev4_eq : ∀ d : Dev nD, (⟨k0_dev4 d, k0_dev4_lt d⟩ : Dev nD) = peer 1 d := by decide +kernel
theorem dev5_eq : ∀ d : Dev nD, (⟨k0_dev5 d, k0_dev5_lt d⟩ : Dev nD) = peer 2 d := by decide +kernel
theorem dev6_eq : ∀ d : Dev nD, (⟨k0_dev6 d, k0_dev6_lt d⟩ : Dev nD) = peer 3 d := by decide +kernel
theorem dev7_eq : ∀ d : Dev nD, (⟨k0_dev7 d, k0_dev7_lt d⟩ : Dev nD) = peer 4 d := by decide +kernel
theorem dev8_eq : ∀ d : Dev nD, (⟨k0_dev8 d, k0_dev8_lt d⟩ : Dev nD) = peer 5 d := by decide +kernel
theorem dev9_eq : ∀ d : Dev nD, (⟨k0_dev9 d, k0_dev9_lt d⟩ : Dev nD) = peer 6 d := by decide +kernel
theorem dev10_eq : ∀ d : Dev nD, (⟨k0_dev10 d, k0_dev10_lt d⟩ : Dev nD) = peer 7 d := by decide +kernel
theorem dev11_eq : ∀ d : Dev nD, (⟨k0_dev11 d, k0_dev11_lt d⟩ : Dev nD) = peer 8 d := by decide +kernel
theorem dev12_eq : ∀ d : Dev nD, (⟨k0_dev12 d, k0_dev12_lt d⟩ : Dev nD) = peer 9 d := by decide +kernel
theorem dev13_eq : ∀ d : Dev nD, (⟨k0_dev13 d, k0_dev13_lt d⟩ : Dev nD) = peer 10 d := by decide +kernel
theorem dev14_eq : ∀ d : Dev nD, (⟨k0_dev14 d, k0_dev14_lt d⟩ : Dev nD) = peer 11 d := by decide +kernel

/-! ## Row blocks: the result's 1024 rows in eight blocks of 128 -/

/-- The bit of the device's number that picks the quarter kept in half `h`. -/
def kbit (h : ℕ) (c : Dev nD) : ℕ := if h = 0 then (c.val % 2 + c.val / 2) % 2 else c.val / 2
theorem kbit_le : ∀ (h : ℕ) (c : Dev nD), kbit h c ≤ 1 := by
  intro h c; have := c.isLt; simp only [nD] at this; unfold kbit; split <;> omega

/-- The block chain `j = 2 * p + h` keeps. -/
def keepB (j : Fin 4) (c : Dev nD) : Fin 8 :=
  ⟨4 * (j.val % 2) + 2 * kbit (j.val % 2) c + j.val / 2, by have := kbit_le (j.val % 2) c; omega⟩
/-- The block chain `j` sends away first. -/
def sendB (j : Fin 4) (c : Dev nD) : Fin 8 :=
  ⟨4 * (j.val % 2) + 2 * (1 - kbit (j.val % 2) c) + j.val / 2, by omega⟩

/-- The chain whose block copy `i` writes out. -/
def chainOf (i : Fin 8) : Fin 4 := ⟨2 * (i.val % 2) + i.val / 2 % 2, by omega⟩
/-- The block copy `i` writes out: the kept ones first, then those received at the last stage. -/
def blkOf (i : Fin 8) (c : Dev nD) : Fin 8 :=
  if i.val < 4 then keepB (chainOf i) c else sendB (chainOf i) c
/-- Which copy writes block `r` out. -/
def copyOf (r : Fin 8) (c : Dev nD) : Fin 8 :=
  ⟨(2 * (r.val / 4) + r.val % 2) + (if r.val / 2 % 2 = kbit (r.val / 4) c then 0 else 4), by split <;> omega⟩
theorem blkOf_copyOf : ∀ (c : Dev nD) (r : Fin 8), blkOf (copyOf r c) c = r := by decide
theorem copyOf_blkOf : ∀ (c : Dev nD) (i : Fin 8), copyOf (blkOf i c) c = i := by decide
/-- Copies and blocks in correspondence. -/
def blkE (c : Dev nD) : Fin 8 ≃ Fin 8 := ⟨fun i => blkOf i c, fun r => copyOf r c, copyOf_blkOf c, blkOf_copyOf c⟩

theorem off1_eq0 : ∀ d : Dev nD, k0_off1 d 0#32 = ![128 * (sendB 0 d).val, 0] := by decide +kernel
theorem off1_eq1 : ∀ d : Dev nD, k0_off1 d 128#32 = ![128 * (sendB 2 d).val, 0] := by decide +kernel
theorem off2_eq0 : ∀ d : Dev nD, k0_off2 d 0#32 = ![128 * (sendB 1 d).val, 0] := by decide +kernel
theorem off2_eq1 : ∀ d : Dev nD, k0_off2 d 128#32 = ![128 * (sendB 3 d).val, 0] := by decide +kernel
theorem off3_eq : ∀ d : Dev nD, k0_off3 d = ![128 * (keepB 0 d).val, 0] := by decide +kernel
theorem off4_eq : ∀ d : Dev nD, k0_off4 d = ![128 * (keepB 0 d).val, 0] := by decide +kernel
theorem off5_eq : ∀ d : Dev nD, k0_off5 d = ![128 * (keepB 1 d).val, 0] := by decide +kernel
theorem off6_eq : ∀ d : Dev nD, k0_off6 d = ![128 * (keepB 1 d).val, 0] := by decide +kernel
theorem off7_eq : ∀ d : Dev nD, k0_off7 d = ![128 * (keepB 2 d).val, 0] := by decide +kernel
theorem off9_eq : ∀ d : Dev nD, k0_off9 d = ![128 * (keepB 3 d).val, 0] := by decide +kernel
theorem off8_eq0 : ∀ d : Dev nD, k0_off8 d 0#32 = ![128 * (keepB 0 d).val, 0] := by decide +kernel
theorem off8_eq1 : ∀ d : Dev nD, k0_off8 d 128#32 = ![128 * (keepB 2 d).val, 0] := by decide +kernel
theorem off10_eq0 : ∀ d : Dev nD, k0_off10 d 0#32 = ![128 * (keepB 1 d).val, 0] := by decide +kernel
theorem off10_eq1 : ∀ d : Dev nD, k0_off10 d 128#32 = ![128 * (keepB 3 d).val, 0] := by decide +kernel
theorem off11_eq0 : ∀ d : Dev nD, k0_off11 d 0#32 = ![128 * (keepB 0 d).val, 0] := by decide +kernel
theorem off11_eq1 : ∀ d : Dev nD, k0_off11 d 128#32 = ![128 * (keepB 2 d).val, 0] := by decide +kernel
theorem off12_eq0 : ∀ d : Dev nD, k0_off12 d 0#32 = ![128 * (keepB 1 d).val, 0] := by decide +kernel
theorem off12_eq1 : ∀ d : Dev nD, k0_off12 d 128#32 = ![128 * (keepB 3 d).val, 0] := by decide +kernel
theorem off13_eq0 : ∀ d : Dev nD, k0_off13 d 0#32 = ![128 * (sendB 0 d).val, 0] := by decide +kernel
theorem off13_eq1 : ∀ d : Dev nD, k0_off13 d 128#32 = ![128 * (sendB 2 d).val, 0] := by decide +kernel
theorem off14_eq0 : ∀ d : Dev nD, k0_off14 d 0#32 = ![128 * (sendB 0 d).val, 0] := by decide +kernel
theorem off14_eq1 : ∀ d : Dev nD, k0_off14 d 128#32 = ![128 * (sendB 2 d).val, 0] := by decide +kernel
theorem off15_eq0 : ∀ d : Dev nD, k0_off15 d 0#32 = ![128 * (sendB 1 d).val, 0] := by decide +kernel
theorem off15_eq1 : ∀ d : Dev nD, k0_off15 d 128#32 = ![128 * (sendB 3 d).val, 0] := by decide +kernel
theorem off16_eq0 : ∀ d : Dev nD, k0_off16 d 0#32 = ![128 * (sendB 1 d).val, 0] := by decide +kernel
theorem off16_eq1 : ∀ d : Dev nD, k0_off16 d 128#32 = ![128 * (sendB 3 d).val, 0] := by decide +kernel

/-! ## Memrefs -/

/-- The outgoing buffers, one per stage. -/
def sBuf (g : Fin 3) : Memref sig .tc .vmem S2x2x128x1024 .bf16 :=
  match g with
  | 0 => Memref.whole cc0_scratch1
  | 1 => Memref.whole cc0_scratch2
  | 2 => Memref.whole cc0_scratch3
/-- The landing buffers, one per stage. -/
def rBuf (g : Fin 3) : Memref sig .tc .vmem S2x2x128x1024 .bf16 :=
  match g with
  | 0 => Memref.whole cc0_scratch4
  | 1 => Memref.whole cc0_scratch5
  | 2 => Memref.whole cc0_scratch6

theorem sBuf_whole (g : Fin 3) : (sBuf g).IsWhole := by
  fin_cases g <;> exact Memref.isWhole_whole _
theorem rBuf_whole (g : Fin 3) : (rBuf g).IsWhole := by
  fin_cases g <;> exact Memref.isWhole_whole _

theorem slot_inb (h p : Fin 2) : ∀ a, (![h.val, p.val, 0, 0] : Fin 4 → Nat) a + S1x1x128x1024.size a ≤ S2x2x128x1024.size a := by
  revert h p; decide
theorem blk_inb (r : Fin 8) : ∀ a, (![128 * r.val, 0] : Fin 2 → Nat) a + S128x1024.size a ≤ S1024x1024.size a := by
  revert r; decide
theorem arow_inb (r : Fin 8) : ∀ a, (![128 * r.val, 0] : Fin 2 → Nat) a + S128x512.size a ≤ S1024x512.size a := by
  revert r; decide

/-- Slot `(h, p)` of a buffer of four slots, as a rectangle. -/
abbrev slotR (h p : Fin 2) : Rect S2x2x128x1024 := Rect.unit (s := S2x2x128x1024) ![h.val, p.val, 0, 0] S1x1x128x1024.size (slot_inb h p)
/-- A slot of a four-slot buffer as a matrix memref. -/
abbrev slotM (M : Memref sig .tc .vmem S2x2x128x1024 .bf16) (h p : Fin 2) : Memref sig .tc .vmem S128x1024 .bf16 :=
  (M.slice (slotR h p) (fun _ => rfl)).squeeze S128x1024 squeezes_S1x1x128x1024_S128x1024
/-- Row block `r` of a 1024×1024 buffer, as a rectangle. -/
abbrev blkR (r : Fin 8) : Rect S1024x1024 := Rect.unit (s := S1024x1024) ![128 * r.val, 0] S128x1024.size (blk_inb r)

/-- Stage, half and piece of a transfer. -/
def kg (k : Fin 12) : Fin 3 := ⟨k.val / 4, by omega⟩
def kh (k : Fin 12) : Fin 2 := ⟨k.val % 2, by omega⟩
def kp (k : Fin 12) : Fin 2 := ⟨k.val / 2 % 2, by omega⟩

/-- What transfer `k` sends from. -/
def sMem (k : Fin 12) : Memref sig .tc .vmem S128x1024 .bf16 := slotM (sBuf (kg k)) (kh k) (kp k)
/-- Where transfer `k` lands. -/
def rMem (k : Fin 12) : Memref sig .tc .vmem S128x1024 .bf16 := slotM (rBuf (kg k)) (kh k) (kp k)
/-- Row block `r` of the accumulator. -/
def accMem (r : Fin 8) : Memref sig .tc .vmem S128x1024 .f32 := (Memref.whole cc0_scratch0).slice (blkR r) (fun _ => rfl)
/-- Row block `r` of the result. -/
def outMem (r : Fin 8) : Memref sig .tc .hbm S128x1024 .f32 := (Memref.whole main_v1).slice (blkR r) (fun _ => rfl)

/-! ## Semaphores -/

abbrev barS := (SemArray.scalar (sig.barrier 0 rfl) : Sems sig S_).sem
def sendQ (k : Fin 12) : DmaSem sig := ⟨2 + k.val, by have := k.isLt; show _ < 34; omega⟩
def recvQ (k : Fin 12) : DmaSem sig := ⟨14 + k.val, by have := k.isLt; show _ < 34; omega⟩
def copyQ (i : Fin 8) : DmaSem sig := ⟨26 + i.val, by have := i.isLt; show _ < 34; omega⟩

/-- Bytes one transfer credits, and one copy. -/
def dN : ℕ := (rMem 0).view.dmaCredit
def cN : ℕ := (outMem 0).view.dmaCredit

theorem rMem_credit (k : Fin 12) : (rMem k).view.dmaCredit = dN := by fin_cases k <;> rfl
theorem sMem_credit (k : Fin 12) : (sMem k).view.dmaCredit = dN := by fin_cases k <;> rfl
theorem outMem_credit (r : Fin 8) : (outMem r).view.dmaCredit = cN := by fin_cases r <;> rfl
theorem dN_pos : 0 < dN := View.dmaCredit_pos _ (by decide)
theorem cN_pos : 0 < cN := View.dmaCredit_pos _ (by decide)

end Cert.Work

end
-- ==== Proof.Sched.lean ====
/- What each transfer and each copy carries, and the schedule of the semaphores: who pays each cell, how much, and
   what the payment hands over; then what each device owes when it starts, and the order in which cells may wait. -/
module

public import proofs.«01_k».proof.Proof.Geom

@[expose] public section

noncomputable section

namespace Cert.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Contents -/

/-- Device `c`'s columns of the left operand, as fetched. -/
def xA (c : Dev nD) : (cc0_stg0_0 : Ref sig .tc).ty.Contents (Elt F) :=
  (win0_0.blk (0 : Fin 1)).view.read (Elt F) ((s₀ m ρ).mem ((c : Thread nD τ).loc main_arg0))
/-- Device `c`'s rows of the right operand, as fetched. -/
def xB (c : Dev nD) : (cc0_stg1_0 : Ref sig .tc).ty.Contents (Elt F) :=
  (win0_1.blk (0 : Fin 1)).view.read (Elt F) ((s₀ m ρ).mem ((c : Thread nD τ).loc main_arg1))

/-- A row block of the left operand's rectangle. -/
abbrev arowR (r : Fin 8) : Rect S1024x512 := Rect.unit (s := S1024x512) ![128 * r.val, 0] S128x512.size (arow_inb r)
abbrev ballR : Rect S512x1024 := Rect.unit (s := S512x1024) ![0, 0] S512x1024.size inb_S512x1024_S512x1024_0_0

/-- Row block `r` of what the left staging buffer holds. -/
def aRows (f : (cc0_stg0_0 : Ref sig .tc).ty.Contents (Elt F)) (r : Fin 8) : Vec F S128x512 .f32 :=
  (Memref.whole cc0_stg0_0 : Memref sig .tc .vmem S1024x512 .f32).view.readAt (Elt F) (arowR r).toLoadRect f
/-- All of what the right staging buffer holds. -/
def bAll (f : (cc0_stg1_0 : Ref sig .tc).ty.Contents (Elt F)) : Vec F S512x1024 .f32 :=
  (Memref.whole cc0_stg1_0 : Memref sig .tc .vmem S512x1024 .f32).view.readAt (Elt F) ballR.toLoadRect f

/-- The product of a row block with the right operand's rows. -/
def mm (a : Vec F S128x512 .f32) (b : Vec F S512x1024 .f32) : FVec F S128x1024 .f32 :=
  matmul dot_S128x512_S512x1024_S128x1024_1_0_0_1_n_n none a b (constant S128x1024 .f32 0x00000000#32)
/-- Narrowed for sending. -/
def toB (x : FVec F S128x1024 .f32) : FVec F S128x1024 .bf16 := truncf .bf16 x bitsLt_bf16_f32
/-- Widened on arrival. -/
def up (x : FVec F S128x1024 .bf16) : FVec F S128x1024 .f32 := extf .f32 x bitsLt_bf16_f32

/-- Device `c`'s own product for row block `r`. -/
def P (c : Dev nD) (r : Fin 8) : FVec F S128x1024 .f32 := mm (aRows (xA m ρ c) r) (bAll (xB m ρ c))

/-- Transfer of stage `g` in chain `j`. -/
def st (g : Fin 3) (j : Fin 4) : Fin 12 := ⟨4 * g.val + j.val, by omega⟩

/-- First stage: the product of the block sent away. -/
def V0 (j : Fin 4) (c : Dev nD) : FVec F S128x1024 .bf16 := toB (P m ρ c (sendB j c))
/-- The kept block's product. -/
def T0 (j : Fin 4) (c : Dev nD) : FVec F S128x1024 .f32 := P m ρ c (keepB j c)
/-- The kept block with the first partner's share added. -/
def T1 (j : Fin 4) (c : Dev nD) : FVec F S128x1024 .f32 := addf (T0 m ρ j c) (up (V0 m ρ j (peer (st 0 j) c)))
def V1 (j : Fin 4) (c : Dev nD) : FVec F S128x1024 .bf16 := toB (T1 m ρ j c)
/-- And with the second partner's: the block complete. -/
def T2 (j : Fin 4) (c : Dev nD) : FVec F S128x1024 .f32 := addf (T1 m ρ j c) (up (V1 m ρ j (peer (st 1 j) c)))
def V2 (j : Fin 4) (c : Dev nD) : FVec F S128x1024 .bf16 := toB (T2 m ρ j c)
/-- The other block, complete as received. -/
def R3 (j : Fin 4) (c : Dev nD) : FVec F S128x1024 .f32 := up (V2 m ρ j (peer (st 2 j) c))

/-- What transfer `k` from device `c` carries. -/
def val (k : Fin 12) (c : Dev nD) : FVec F S128x1024 .bf16 :=
  if h : k.val < 4 then V0 m ρ ⟨k.val, h⟩ c
  else if h : k.val < 8 then V1 m ρ ⟨k.val - 4, by omega⟩ c
  else V2 m ρ ⟨k.val - 8, by omega⟩ c
/-- What copy `i` on device `c` writes out. -/
def fin (i : Fin 8) (c : Dev nD) : FVec F S128x1024 .f32 :=
  if i.val < 4 then T2 m ρ (chainOf i) c else R3 m ρ (chainOf i) c

/-! ## Cells -/

/-- The kernel's semaphores in use: the barrier, and per transfer a sending and a receiving one, and one per copy. -/
abbrev CI : Type := Unit ⊕ (Fin 12 ⊕ (Fin 12 ⊕ Fin 8))
abbrev csem : CI → SemLoc sig
  | .inl _ => .reg barS
  | .inr (.inl k) => .dma (sendQ k)
  | .inr (.inr (.inl k)) => .dma (recvQ k)
  | .inr (.inr (.inr i)) => .dma (copyQ i)
abbrev iBar : CI := .inl ()
abbrev iSend (k : Fin 12) : CI := .inr (.inl k)
abbrev iRecv (k : Fin 12) : CI := .inr (.inr (.inl k))
abbrev iCopy (i : Fin 8) : CI := .inr (.inr (.inr i))
abbrev kcell (ck : Dev nD × CI) : GSem nD τ sig := ((ck.1 : Thread nD τ), csem ck.2)
abbrev barCell (c : Dev nD) : GSem nD τ sig := ((c : Thread nD τ), .reg barS)
abbrev sendCell (c : Dev nD) (k : Fin 12) : GSem nD τ sig := ((c : Thread nD τ), .dma (sendQ k))
abbrev recvCell (c : Dev nD) (k : Fin 12) : GSem nD τ sig := ((c : Thread nD τ), .dma (recvQ k))
abbrev copyCell (c : Dev nD) (i : Fin 8) : GSem nD τ sig := ((c : Thread nD τ), .dma (copyQ i))

/-! ## The schedule -/

/-- A landing slot at any contents. -/
def land (c : Dev nD) (k : Fin 12) : sProp 𝕄 := iprop(∃ X, owns (c : Thread nD τ) (rMem k) fullShare X)
/-- The landing slots of device `c` that its low-bit partner (`b = false`) or its mirrored one (`b = true`) writes. -/
def lands (c : Dev nD) (b : Bool) : sProp 𝕄 := bigSep (Finset.univ.filter fun k => toA k ≠ b) (land (F := F) c)
/-- A signal hands the signalled device the slots it will write on the signaller. -/
def barPay (c : Dev nD) (b : Bool) : sProp 𝕄 := lands (F := F) (if b then pb c else pa c) b
def sendPay (c : Dev nD) (k : Fin 12) : sProp 𝕄 := owns (c : Thread nD τ) (sMem k) fullShare (val m ρ k c)
def recvPay (c : Dev nD) (k : Fin 12) : sProp 𝕄 := owns (c : Thread nD τ) (rMem k) fullShare (val m ρ k (peer k c))
def copyPay (c : Dev nD) (i : Fin 8) : sProp 𝕄 :=
  iprop(owns (c : Thread nD τ) (outMem (blkOf i c)) fullShare (fin m ρ i c) ∗ owns (c : Thread nD τ) (accMem (blkOf i c)) fullShare (fin m ρ i c))

/-- What completes on the transfer semaphore number `q` of device `c`. -/
def dmaPay (c : Dev nD) (q : ℕ) : sProp 𝕄 :=
  if h : q < 2 then iprop(emp)
  else if h : q < 14 then sendPay m ρ c ⟨q - 2, by omega⟩
  else if h : q < 26 then recvPay m ρ c ⟨q - 14, by omega⟩
  else if h : q < 34 then copyPay m ρ c ⟨q - 26, by omega⟩
  else iprop(emp)

instance land_storable (c : Dev nD) (k : Fin 12) : BI.Storable (upEmb : UEmb _ 𝕄) (land (F := F) c k) := by unfold land; infer_instance
instance lands_storable (c : Dev nD) (b : Bool) : BI.Storable (upEmb : UEmb _ 𝕄) (lands (F := F) c b) := by unfold lands; infer_instance
instance dmaPay_storable (c : Dev nD) (q : ℕ) : BI.Storable (upEmb : UEmb _ 𝕄) (dmaPay m ρ c q) := by
  unfold dmaPay sendPay recvPay copyPay; (repeat' split) <;> infer_instance

/-- The duties of a semaphore in its only round. -/
def semDuties : SemLoc sig → Finset Bool
  | .reg _ => Finset.univ
  | .dma q => if q.val < 2 then ∅ else {false}
def semAmount : SemLoc sig → ℕ
  | .reg _ => 1
  | .dma q => if q.val < 26 then dN else cN
def semPay (c : Dev nD) (b : Bool) : SemLoc sig → sProp 𝕄
  | .reg _ => barPay (F := F) c b
  | .dma q => dmaPay m ρ c q.val

instance semPay_storable (c : Dev nD) (b : Bool) (s : SemLoc sig) : BI.Storable (upEmb : UEmb _ 𝕄) (semPay m ρ c b s) := by
  cases s
  · unfold semPay barPay; infer_instance
  · unfold semPay; infer_instance

/-- One round on every semaphore: the barrier is paid a unit by each partner, every other one by a single completion. -/
def rd : Rounds.Schedule (GSem nD τ sig) Bool 𝕄 where
  duties g r := if r = 0 ∧ g.1.2 = .tc then semDuties g.2 else ∅
  unitless _ := False
  amount g _ _ := semAmount g.2
  payload g _ b := semPay m ρ g.1.1 b g.2
  amount_pos g _ _ _ := by
    rcases g.2 with s | q
    · exact Nat.one_pos
    · show 0 < if q.val < 26 then dN else cN
      by_cases h : q.val < 26
      · rw [if_pos h]; exact dN_pos
      · rw [if_neg h]; exact cN_pos

instance rd_storable (g : GSem nD τ sig) (r : ℕ) (b : Bool) : BI.Storable (upEmb : UEmb _ 𝕄) ((rd (F := F) m ρ).payload g r b) := by
  show BI.Storable upEmb (semPay m ρ g.1.1 b g.2); infer_instance

section Sched
variable (c : Dev nD) (k : Fin 12) (i : Fin 8)

theorem duties_bar : (rd (F := F) m ρ).duties (barCell c) 0 = Finset.univ := rfl
theorem duties_dma {q : DmaSem sig} (hq : 2 ≤ q.val) : (rd (F := F) m ρ).duties ((c : Thread nD τ), .dma q) 0 = {false} :=
  (show (rd (F := F) m ρ).duties ((c : Thread nD τ), .dma q) 0 = semDuties (.dma q) from rfl).trans (if_neg (Nat.not_lt.2 hq))
theorem duties_send : (rd (F := F) m ρ).duties (sendCell c k) 0 = {false} := duties_dma m ρ c (by unfold sendQ; dsimp only; omega)
theorem duties_recv : (rd (F := F) m ρ).duties (recvCell c k) 0 = {false} := duties_dma m ρ c (by unfold recvQ; dsimp only; omega)
theorem duties_copy : (rd (F := F) m ρ).duties (copyCell c i) 0 = {false} := duties_dma m ρ c (by unfold copyQ; dsimp only; omega)
theorem duties_later (g : GSem nD τ sig) : ∀ r, 1 ≤ r → (rd (F := F) m ρ).duties g r = ∅ :=
  fun r hr => if_neg fun h => by omega

theorem amount_send (b : Bool) : (rd (F := F) m ρ).amount (sendCell c k) 0 b = dN := if_pos (by unfold sendQ; dsimp only; omega)
theorem amount_recv (b : Bool) : (rd (F := F) m ρ).amount (recvCell c k) 0 b = dN := if_pos (by unfold recvQ; dsimp only; omega)
theorem amount_copy (b : Bool) : (rd (F := F) m ρ).amount (copyCell c i) 0 b = cN := if_neg (by unfold copyQ; dsimp only; omega)

theorem expect_bar : (rd (F := F) m ρ).expect (barCell c) 0 = 2 := rfl
theorem expect_send : (rd (F := F) m ρ).expect (sendCell c k) 0 = dN := by
  unfold Schedule.expect Schedule.amountOf; rw [duties_send, Finset.sum_singleton, amount_send]
theorem expect_recv : (rd (F := F) m ρ).expect (recvCell c k) 0 = dN := by
  unfold Schedule.expect Schedule.amountOf; rw [duties_recv, Finset.sum_singleton, amount_recv]
theorem expect_copy : (rd (F := F) m ρ).expect (copyCell c i) 0 = cN := by
  unfold Schedule.expect Schedule.amountOf; rw [duties_copy, Finset.sum_singleton, amount_copy]

theorem payload_send (b : Bool) : (rd (F := F) m ρ).payload (sendCell c k) 0 b = sendPay m ρ c k := by
  show dmaPay m ρ c (2 + k.val) = _
  unfold dmaPay; rw [dif_neg (by omega), dif_pos (by omega)]; congr 1; exact Fin.ext (by dsimp only; omega)
theorem payload_recv (b : Bool) : (rd (F := F) m ρ).payload (recvCell c k) 0 b = recvPay m ρ c k := by
  show dmaPay m ρ c (14 + k.val) = _
  unfold dmaPay; rw [dif_neg (by omega), dif_neg (by omega), dif_pos (by omega)]; congr 1; exact Fin.ext (by dsimp only; omega)
theorem payload_copy (b : Bool) : (rd (F := F) m ρ).payload (copyCell c i) 0 b = copyPay m ρ c i := by
  show dmaPay m ρ c (26 + i.val) = _
  unfold dmaPay; rw [dif_neg (by omega), dif_neg (by omega), dif_neg (by omega), dif_pos (by omega)]; congr 1; exact Fin.ext (by dsimp only; omega)

theorem rest_bar : bigSep ((rd (F := F) m ρ).duties (barCell c) 0 \ ∅) (fun b => (rd (F := F) m ρ).payload (barCell c) 0 b)
    = iprop(barPay (F := F) c false ∗ barPay (F := F) c true) := by
  rw [Finset.sdiff_empty, duties_bar, bigSep_univ_eq_bigSepL [false, true] (by decide) (by decide), bigSepL_cons_cons, bigSepL_singleton]
  rfl
theorem rest_send : bigSep ((rd (F := F) m ρ).duties (sendCell c k) 0 \ ∅) (fun b => (rd (F := F) m ρ).payload (sendCell c k) 0 b) = sendPay m ρ c k := by
  rw [Finset.sdiff_empty, duties_send, bigSep_singleton, payload_send]
theorem rest_recv : bigSep ((rd (F := F) m ρ).duties (recvCell c k) 0 \ ∅) (fun b => (rd (F := F) m ρ).payload (recvCell c k) 0 b) = recvPay m ρ c k := by
  rw [Finset.sdiff_empty, duties_recv, bigSep_singleton, payload_recv]
theorem rest_copy : bigSep ((rd (F := F) m ρ).duties (copyCell c i) 0 \ ∅) (fun b => (rd (F := F) m ρ).payload (copyCell c i) 0 b) = copyPay m ρ c i := by
  rw [Finset.sdiff_empty, duties_copy, bigSep_singleton, payload_copy]

end Sched

/-! ## What a device owes, and which cells may wait -/

/-- What device `c` still owes its partners once its first `n` transfers are started. -/
def Orem (c : Dev nD) (n : ℕ) : CellTallies nD τ sig Unit :=
  ∑ k ∈ (Finset.univ : Finset (Fin 12)).filter (fun k => n ≤ k.val), tallyAt (recvCell (peer k c) k) () dN
def O₁ (c : Dev nD) : CellTallies nD τ sig Unit := Orem c 0 + tallyAt (barCell (pb c)) () 1
def O₀ (c : Dev nD) : CellTallies nD τ sig Unit := O₁ c + tallyAt (barCell (pa c)) () 1

theorem Orem_step (c : Dev nD) (k : Fin 12) : Orem c k.val = Orem c (k.val + 1) + tallyAt (recvCell (peer k c) k) () dN := by
  unfold Orem
  rw [add_comm, ← Finset.sum_insert (f := fun k => tallyAt (recvCell (peer k c) k) () dN) (a := k) (by simp)]
  congr 1
  ext x
  simp only [Finset.mem_filter, Finset.mem_univ, true_and, Finset.mem_insert, Fin.ext_iff]
  omega
theorem Orem_end (c : Dev nD) : Orem c 12 = 0 := by
  unfold Orem
  rw [Finset.sum_eq_zero]
  intro k hk
  have := (Finset.mem_filter.mp hk).2
  omega

def L (g : GSem nD τ sig) : Finset Unit := if g.1.2 = .tc then {()} else ∅
/-- The barrier first, then the receiving cells in the order of their transfers; cells nobody owes are at 0. -/
def semLv : SemLoc sig → ℕ
  | .reg _ => 1
  | .dma q => if 14 ≤ q.val ∧ q.val < 26 then q.val - 12 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (k : Fin 12) (u : Unit) : lv (recvCell c k) u = 2 + k.val := by
  show (if _ then _ else _) = _
  unfold recvQ; dsimp only; rw [if_pos (by omega)]; omega

theorem Orem_pos {c : Dev nD} {n : ℕ} {g : GSem nD τ sig} {u : Unit} (h : 0 < Orem c n g u) :
    ∃ k : Fin 12, n ≤ k.val ∧ g = recvCell (peer k c) k := by
  unfold Orem at h
  rw [Finset.sum_apply, Finsupp.finset_sum_apply] at h
  obtain ⟨k, hk, hne⟩ := Finset.exists_ne_zero_of_sum_ne_zero h.ne'
  refine ⟨k, (Finset.mem_filter.mp hk).2, ?_⟩
  rw [tallyAt_apply] at hne
  by_contra hg
  exact hne (if_neg fun h' => hg h'.1)
theorem O₀_pos {c : Dev nD} {g : GSem nD τ sig} {u : Unit} (h : 0 < O₀ c g u) :
    (∃ k : Fin 12, g = recvCell (peer k c) k) ∨ g = barCell (pb c) ∨ g = barCell (pa c) := by
  by_cases h1 : g = barCell (pb c)
  · exact .inr (.inl h1)
  by_cases h2 : g = barCell (pa c)
  · exact .inr (.inr h2)
  have e1 : tallyAt (barCell (pb c)) () 1 g u = 0 := by rw [tallyAt_apply]; exact if_neg fun h' => h1 h'.1
  have e2 : tallyAt (barCell (pa c)) () 1 g u = 0 := by rw [tallyAt_apply]; exact if_neg fun h' => h2 h'.1
  have e : O₀ c g u = Orem c 0 g u := by
    unfold O₀ O₁; rw [Pi.add_apply, Finsupp.add_apply, Pi.add_apply, Finsupp.add_apply, e1, e2, add_zero, add_zero]
  rw [e] at h
  obtain ⟨k, -, hk⟩ := Orem_pos h
  exact .inl ⟨k, hk⟩

/-- A staging cell may wait whatever is owed at launch. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by
        rw [Finset.mem_singleton.mp hp]
        exact le_of_eq (if_neg fun h => by omega))
      (fun g u hg => by
        rcases O₀_pos hg with ⟨k, rfl⟩ | rfl | rfl
        · rw [lv_recv]; omega
        · rw [lv_bar]; omega
        · rw [lv_bar]; omega)
  · rw [MayWait_zero]; iintro -; iempintro

/-- A cell may wait while only later receiving cells are owed. -/
theorem mayWait_lt (c : Dev nD) (sm : SemLoc sig) (n : ℕ) (h : semLv sm < 2 + n) :
    (levAts L lv : sProp 𝕄) ⊢ MayWait (c : Thread nD τ) sm () (Orem c n) :=
  MayOwe.of_cut (L := L) (lev := lv) (semLv sm) (fun p hp => by rw [Finset.mem_singleton.mp hp, L_tc]; exact Finset.mem_singleton_self _)
    (fun g u hg => by obtain ⟨k, -, rfl⟩ := Orem_pos hg; exact Finset.mem_singleton_self _)
    (fun p hp => by rw [Finset.mem_singleton.mp hp]; exact le_rfl)
    (fun g u hg => by obtain ⟨k, hk, rfl⟩ := Orem_pos hg; rw [lv_recv]; omega)

end Cert.Work

end
-- ==== Proof.Ops.lean ====
/- One rule per kind of operation the kernel performs, each stated once for every transfer, copy, block or slot:
   what it takes, what it gives back, and how the program goes on. -/
module

public import proofs.«01_k».proof.Proof.Sched
public import Idealize.ShloMosaic.Lib.Pipeline.Value
public import Idealize.ShloMosaic.Lib.VecWindow

@[expose] public section

noncomputable section

namespace Cert.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` runs on device `c` to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The end of a program. -/
theorem run_ret (c : Dev nD) {α : Type} (x : α) (Q : α → sProp 𝕄) : Q x ⊢ run c (.ret x) Q := by
  unfold run
  rw [wp_ret]
  exact fupd_intro

/-! ## Loads and stores -/

section Mem

variable {cs : CoreSpace} {s : Shape} {e : EltTy} (c : Dev nD) {α : Type}

theorem load_slice (M : Memref sig .tc cs s e) (r : Rect s) (hr : ∀ a, r.stride a = 1) {hl : M.view.LoadsAt r.toLoadRect}
    {k : (r.toLoadRect.shape.Idx → Elt F e) → Prog (TpuEff nD τ sig (Elt F) Λ₀ .tc) α} (X : r.shape.Idx → Elt F e) {Q : α → sProp 𝕄} :
    (owns (c : Thread nD τ) (M.slice r hr) fullShare X : sProp 𝕄)
      ⊢ iprop((owns (c : Thread nD τ) (M.slice r hr) fullShare X -∗ run c (k X) Q) -∗ run c (.op (.load M r.toLoadRect hl) k) Q) := by
  unfold owns
  iintro ⟨%f, %hf, H⟩ Hk
  iapply (wp_load_rect 𝒱₀ (c : Thread nD τ) none Set.univ (m := M) (r := r) (f := f) (subset_refl _)) $$ H
  iintro H
  rw [show (M.access r).read (Elt F) f = X from hf]
  iapply Hk
  iexists f
  isplitr; · ipureintro; exact hf
  iexact H

theorem store_slice (M : Memref sig .tc cs s e) (r : Rect s) (hr : ∀ a, r.stride a = 1) (w : r.shape.Idx → Elt F e)
    {hx : (M.access r).Stores Finset.univ} {hm : (Finset.univ : Finset r.shape.Idx) = Finset.univ ∨ ∀ a, r.stride a = 1}
    {k : PUnit → Prog (TpuEff nD τ sig (Elt F) Λ₀ .tc) α} (X : r.shape.Idx → Elt F e) {Q : α → sProp 𝕄} :
    (owns (c : Thread nD τ) (M.slice r hr) fullShare X : sProp 𝕄)
      ⊢ iprop((owns (c : Thread nD τ) (M.slice r hr) fullShare w -∗ run c (k ⟨⟩) Q) -∗ run c (.op (.store M r w Finset.univ hx hm) k) Q) := by
  unfold owns
  iintro ⟨%f, %hf, H⟩ Hk
  iapply (wp_store 𝒱₀ (c : Thread nD τ) none Set.univ (m := M) (r := r) (Mk := Finset.univ) (f := f) (by rw [View.setOn_univ])) $$ H
  iintro H
  iapply Hk
  iexists ((M.access r).write (Elt F) f w Finset.univ)
  isplitr; · ipureintro; exact View.read_write_univ _ _
  iexact H

/-- Owning a memref through a change of shape, at the contents through the same change. -/
theorem owns_squeeze (N : Memref sig .tc (.core cs) s e) {s' : Shape} (hq : s.Squeezes s') (hc : s.ShapeCasts s') (hc' : s'.ShapeCasts s)
    (X : s'.Idx → Elt F e) :
    (owns (c : Thread nD τ) (N.squeeze s' hq) fullShare X : sProp 𝕄) = owns (c : Thread nD τ) N fullShare (shapeCast s X hc') := by
  unfold owns
  have hs : (N.squeeze s' hq).view.set = N.view.set := View.set_reshape _ _
  have hr : ∀ f : Buf (Elt F) (N.view.loc (c : Thread nD τ)), (N.squeeze s' hq).view.read (Elt F) f = X ↔ N.view.read (Elt F) f = shapeCast s X hc' := by
    intro f
    rw [show (N.squeeze s' hq).view.read (Elt F) f = shapeCast s' (N.view.read (Elt F) f) hc from rfl]
    constructor
    · rintro rfl; rw [shapeCast_shapeCast]
    · intro h; rw [h, shapeCast_shapeCast]
  simp only [hr, hs]

/-- A row block of the accumulator, loaded. -/
theorem load_acc {off : Fin 2 → ℕ} {inb : ∀ a, off a + S128x1024.size a ≤ S1024x1024.size a} (r : Fin 8) (hoff : off = ![128 * r.val, 0])
    {hl : (Memref.whole cc0_scratch0 : Memref sig .tc .vmem S1024x1024 .f32).view.LoadsAt (Rect.unit (s := S1024x1024) off S128x1024.size inb).toLoadRect}
    {k : (S128x1024.Idx → Elt F .f32) → Prog (TpuEff nD τ sig (Elt F) Λ₀ .tc) α} {X : S128x1024.Idx → Elt F .f32} {Q : α → sProp 𝕄} :
    (owns (c : Thread nD τ) (accMem r) fullShare X : sProp 𝕄)
      ⊢ iprop((owns (c : Thread nD τ) (accMem r) fullShare X -∗ run c (k X) Q)
          -∗ run c (.op (.load (Memref.whole cc0_scratch0 : Memref sig .tc .vmem S1024x1024 .f32) (Rect.unit (s := S1024x1024) off S128x1024.size inb).toLoadRect hl) k) Q) := by
  subst hoff
  exact load_slice c (Memref.whole cc0_scratch0 : Memref sig .tc .vmem S1024x1024 .f32) (blkR r) (fun _ => rfl) X

/-- A row block of the accumulator, stored. -/
theorem store_acc {off : Fin 2 → ℕ} {inb : ∀ a, off a + S128x1024.size a ≤ S1024x1024.size a} (r : Fin 8) (hoff : off = ![128 * r.val, 0])
    {w : S128x1024.Idx → Elt F .f32} (Y : S128x1024.Idx → Elt F .f32) (hw : w = Y)
    {hx : ((Memref.whole cc0_scratch0 : Memref sig .tc .vmem S1024x1024 .f32).access (Rect.unit (s := S1024x1024) off S128x1024.size inb)).Stores Finset.univ}
    {hm : (Finset.univ : Finset (Rect.unit (s := S1024x1024) off S128x1024.size inb).shape.Idx) = Finset.univ ∨ ∀ a, (Rect.unit (s := S1024x1024) off S128x1024.size inb).stride a = 1}
    {k : PUnit → Prog (TpuEff nD τ sig (Elt F) Λ₀ .tc) α} {X : S128x1024.Idx → Elt F .f32} {Q : α → sProp 𝕄} :
    (owns (c : Thread nD τ) (accMem r) fullShare X : sProp 𝕄)
      ⊢ iprop((owns (c : Thread nD τ) (accMem r) fullShare Y -∗ run c (k ⟨⟩) Q)
          -∗ run c (.op (.store (Memref.whole cc0_scratch0 : Memref sig .tc .vmem S1024x1024 .f32) (Rect.unit (s := S1024x1024) off S128x1024.size inb) w Finset.univ hx hm) k) Q) := by
  subst hoff hw
  exact store_slice c (Memref.whole cc0_scratch0 : Memref sig .tc .vmem S1024x1024 .f32) (blkR r) (fun _ => rfl) w X

/-- A slot's matrix in the shape it has inside the buffer of four slots. -/
abbrev unsq (X : S128x1024.Idx → Elt F .bf16) : S1x1x128x1024.Idx → Elt F .bf16 := shapeCast S1x1x128x1024 X shapeCasts_S128x1024_S1x1x128x1024

/-- A slot, loaded through the whole buffer. -/
theorem load_slot {M : Memref sig .tc .vmem S2x2x128x1024 .bf16} {off : Fin 4 → ℕ} {inb : ∀ a, off a + S1x1x128x1024.size a ≤ S2x2x128x1024.size a}
    (N : Memref sig .tc .vmem S128x1024 .bf16)
    (hN : (M.slice (Rect.unit (s := S2x2x128x1024) off S1x1x128x1024.size inb) (fun _ => rfl)).squeeze S128x1024 squeezes_S1x1x128x1024_S128x1024 = N)
    {hl : M.view.LoadsAt (Rect.unit (s := S2x2x128x1024) off S1x1x128x1024.size inb).toLoadRect}
    {k : (S1x1x128x1024.Idx → Elt F .bf16) → Prog (TpuEff nD τ sig (Elt F) Λ₀ .tc) α} {X : S128x1024.Idx → Elt F .bf16} {Q : α → sProp 𝕄} :
    (owns (c : Thread nD τ) N fullShare X : sProp 𝕄)
      ⊢ iprop((owns (c : Thread nD τ) N fullShare X -∗ run c (k (unsq X)) Q)
          -∗ run c (.op (.load M (Rect.unit (s := S2x2x128x1024) off S1x1x128x1024.size inb).toLoadRect hl) k) Q) := by
  subst hN
  rw [owns_squeeze c _ _ shapeCasts_S1x1x128x1024_S128x1024 shapeCasts_S128x1024_S1x1x128x1024]
  exact load_slice c M (Rect.unit (s := S2x2x128x1024) off S1x1x128x1024.size inb) (fun _ => rfl) (unsq X)

/-- A slot, stored through the whole buffer. -/
theorem store_slot {M : Memref sig .tc .vmem S2x2x128x1024 .bf16} {off : Fin 4 → ℕ} {inb : ∀ a, off a + S1x1x128x1024.size a ≤ S2x2x128x1024.size a}
    (N : Memref sig .tc .vmem S128x1024 .bf16)
    (hN : (M.slice (Rect.unit (s := S2x2x128x1024) off S1x1x128x1024.size inb) (fun _ => rfl)).squeeze S128x1024 squeezes_S1x1x128x1024_S128x1024 = N)
    {w : S1x1x128x1024.Idx → Elt F .bf16} (Y : S128x1024.Idx → Elt F .bf16) (hw : w = unsq Y)
    {hx : (M.access (Rect.unit (s := S2x2x128x1024) off S1x1x128x1024.size inb)).Stores Finset.univ}
    {hm : (Finset.univ : Finset (Rect.unit (s := S2x2x128x1024) off S1x1x128x1024.size inb).shape.Idx) = Finset.univ ∨ ∀ a, (Rect.unit (s := S2x2x128x1024) off S1x1x128x1024.size inb).stride a = 1}
    {k : PUnit → Prog (TpuEff nD τ sig (Elt F) Λ₀ .tc) α} {X : S128x1024.Idx → Elt F .bf16} {Q : α → sProp 𝕄} :
    (owns (c : Thread nD τ) N fullShare X : sProp 𝕄)
      ⊢ iprop((owns (c : Thread nD τ) N fullShare Y -∗ run c (k ⟨⟩) Q)
          -∗ run c (.op (.store M (Rect.unit (s := S2x2x128x1024) off S1x1x128x1024.size inb) w Finset.univ hx hm) k) Q) := by
  subst hN hw
  rw [owns_squeeze c _ _ shapeCasts_S1x1x128x1024_S128x1024 shapeCasts_S128x1024_S1x1x128x1024,
    owns_squeeze c _ _ shapeCasts_S1x1x128x1024_S128x1024 shapeCasts_S128x1024_S1x1x128x1024]
  exact store_slice c M (Rect.unit (s := S2x2x128x1024) off S1x1x128x1024.size inb) (fun _ => rfl) (unsq Y) (unsq X)

/-- A slot read as a matrix, its value unused. -/
theorem peek_slot {N' : Memref sig .tc .vmem S128x1024 .bf16} (N : Memref sig .tc .vmem S128x1024 .bf16) (hN : N' = N)
    {hl : N'.view.LoadsAt (Rect.unit (s := S128x1024) ![0, 0] S128x1024.size inb_S128x1024_S128x1024_0_0).toLoadRect}
    {k : (S128x1024.Idx → Elt F .bf16) → Prog (TpuEff nD τ sig (Elt F) Λ₀ .tc) α} {X : S128x1024.Idx → Elt F .bf16} {Q : α → sProp 𝕄} :
    (owns (c : Thread nD τ) N fullShare X : sProp 𝕄)
      ⊢ iprop((∀ x, owns (c : Thread nD τ) N fullShare X -∗ run c (k x) Q)
          -∗ run c (.op (.load N' (Rect.unit (s := S128x1024) ![0, 0] S128x1024.size inb_S128x1024_S128x1024_0_0).toLoadRect hl) k) Q) := by
  subst hN
  unfold owns
  iintro ⟨%f, %hf, H⟩ Hk
  iapply (wp_load_rect 𝒱₀ (c : Thread nD τ) none Set.univ (m := N') (r := Rect.unit (s := S128x1024) ![0, 0] S128x1024.size inb_S128x1024_S128x1024_0_0)
    (f := f) (View.set_slice_subset _ _)) $$ H
  iintro H
  iapply Hk
  iexists f
  isplitr; · ipureintro; exact hf
  iexact H

/-- A row block of the left operand, loaded. -/
theorem load_a {off : Fin 2 → ℕ} {inb : ∀ a, off a + S128x512.size a ≤ S1024x512.size a} (r : Fin 8) (hoff : off = ![128 * r.val, 0])
    {hl : (Memref.whole cc0_stg0_0 : Memref sig .tc .vmem S1024x512 .f32).view.LoadsAt (Rect.unit (s := S1024x512) off S128x512.size inb).toLoadRect}
    {k : (S128x512.Idx → Elt F .f32) → Prog (TpuEff nD τ sig (Elt F) Λ₀ .tc) α} {f : (cc0_stg0_0 : Ref sig .tc).ty.Contents (Elt F)} {Q : α → sProp 𝕄} :
    (((c : Thread nD τ).loc cc0_stg0_0) ↦{fullShare} f : sProp 𝕄)
      ⊢ iprop(((((c : Thread nD τ).loc cc0_stg0_0) ↦{fullShare} f) -∗ run c (k (aRows f r)) Q)
          -∗ run c (.op (.load (Memref.whole cc0_stg0_0 : Memref sig .tc .vmem S1024x512 .f32) (Rect.unit (s := S1024x512) off S128x512.size inb).toLoadRect hl) k) Q) := by
  subst hoff
  exact wp_load 𝒱₀ (c : Thread nD τ) none Set.univ (m := (Memref.whole cc0_stg0_0 : Memref sig .tc .vmem S1024x512 .f32)) (r := (arowR r).toLoadRect) (hl := hl)
    (q := fullShare) (f := f) (S := Finset.univ) (Finset.subset_univ _)

/-- The right operand, loaded. -/
theorem load_b
    {hl : (Memref.whole cc0_stg1_0 : Memref sig .tc .vmem S512x1024 .f32).view.LoadsAt (Rect.unit (s := S512x1024) ![0, 0] S512x1024.size inb_S512x1024_S512x1024_0_0).toLoadRect}
    {k : (S512x1024.Idx → Elt F .f32) → Prog (TpuEff nD τ sig (Elt F) Λ₀ .tc) α} {f : (cc0_stg1_0 : Ref sig .tc).ty.Contents (Elt F)} {Q : α → sProp 𝕄} :
    (((c : Thread nD τ).loc cc0_stg1_0) ↦{fullShare} f : sProp 𝕄)
      ⊢ iprop(((((c : Thread nD τ).loc cc0_stg1_0) ↦{fullShare} f) -∗ run c (k (bAll f)) Q)
          -∗ run c (.op (.load (Memref.whole cc0_stg1_0 : Memref sig .tc .vmem S512x1024 .f32) (Rect.unit (s := S512x1024) ![0, 0] S512x1024.size inb_S512x1024_S512x1024_0_0).toLoadRect hl) k) Q) :=
  wp_load 𝒱₀ (c : Thread nD τ) none Set.univ (m := (Memref.whole cc0_stg1_0 : Memref sig .tc .vmem S512x1024 .f32)) (r := ballR.toLoadRect) (hl := hl)
    (q := fullShare) (f := f) (S := Finset.univ) (Finset.subset_univ _)

end Mem

/-! ## Signals, transfers, copies and waits -/

variable (K : Dev nD × CI → ℕ)

/-- Every cell's invariant under the names `K`, and that every cell is in its round. -/
def records : sProp 𝕄 :=
  iprop((bigSep Finset.univ fun ck : Dev nD × CI => cellInv ER (rd m ρ) (K ck) (kcell ck))
    ∗ bigSep Finset.univ fun ck : Dev nD × CI => reached ER (kcell ck) 0)
/-- What every rule reads and none uses up. -/
def ctx : sProp 𝕄 := iprop(records m ρ K ∗ levAts L lv)

instance records_persistent : BI.Persistent (records (F := F) m ρ K) := by unfold records; infer_instance
instance ctx_persistent : BI.Persistent (ctx (F := F) m ρ K) := by unfold ctx; infer_instance

theorem ctx_inv (ck : Dev nD × CI) : ctx m ρ K ⊢ (cellInv ER (rd m ρ) (K ck) (kcell ck) : sProp 𝕄) := by
  have h : (bigSep Finset.univ fun ck : Dev nD × CI => cellInv ER (rd m ρ) (K ck) (kcell ck)) ⊢ (cellInv ER (rd m ρ) (K ck) (kcell ck) : sProp 𝕄) :=
    bigSep_elim (Φ := fun ck : Dev nD × CI => (cellInv ER (rd m ρ) (K ck) (kcell ck) : sProp 𝕄)) (Finset.mem_univ ck)
  unfold ctx records
  iintro ⟨⟨#H, -⟩, -⟩
  iapply h
  iexact H
theorem ctx_reached (ck : Dev nD × CI) : ctx m ρ K ⊢ (reached ER (kcell ck) 0 : sProp 𝕄) := by
  have h : (bigSep Finset.univ fun ck : Dev nD × CI => reached ER (kcell ck) 0) ⊢ (reached ER (kcell ck) 0 : sProp 𝕄) :=
    bigSep_elim (Φ := fun ck : Dev nD × CI => (reached ER (kcell ck) 0 : sProp 𝕄)) (Finset.mem_univ ck)
  unfold ctx records
  iintro ⟨⟨-, #H⟩, -⟩
  iapply h
  iexact H
theorem ctx_mayWait (c : Dev nD) (sm : SemLoc sig) (n : ℕ) (h : semLv sm < 2 + n) : ctx m ρ K ⊢ (MayWait (c : Thread nD τ) sm () (Orem c n) : sProp 𝕄) := by
  unfold ctx
  iintro ⟨-, #H⟩
  iapply (mayWait_lt c sm n h); iexact H

/-- What device `c` owes, whatever it has waited for. -/
def OW (c : Dev nD) (O : CellTallies nD τ sig Unit) : sProp 𝕄 := iprop(∃ W, owes (c : Thread nD τ) O W)
/-- What a transfer spends: the two duties it pays; and the device's place at its sending cell. -/
def TX (c : Dev nD) (k : Fin 12) : sProp 𝕄 :=
  iprop(dutyTok ER (sendCell c k) 0 false ∗ dutyTok ER (recvCell (peer k c) k) 0 false ∗ atPos ER (sendCell c k) 0 ∅ 0)
/-- With which the sending end of a transfer is waited for. -/
def SW (c : Dev nD) (k : Fin 12) : sProp 𝕄 := iprop(cred (tallyAt (sendCell c k) () dN) ∗ atPos ER (sendCell c k) 0 ∅ 0)
/-- With which the arriving end is. -/
def RX (c : Dev nD) (k : Fin 12) : sProp 𝕄 := iprop(cred (tallyAt (recvCell c k) () dN) ∗ atPos ER (recvCell c k) 0 ∅ 0)
/-- What a copy spends, and with which it is waited for. -/
def TC (c : Dev nD) (i : Fin 8) : sProp 𝕄 := iprop(dutyTok ER (copyCell c i) 0 false ∗ atPos ER (copyCell c i) 0 ∅ 0)
def CW (c : Dev nD) (i : Fin 8) : sProp 𝕄 := iprop(cred (tallyAt (copyCell c i) () cN) ∗ atPos ER (copyCell c i) 0 ∅ 0)

section Steps

variable (c : Dev nD) {α : Type}

/-- A signal to a partner hands it the landing slots it will write. -/
theorem signal_step {n : Dev nD} (b : Bool) (p : Dev nD) (hp : p = if b then pb c else pa c) (hn : n = p) {w : ℕ} (hw : w = 1)
    (O' O : CellTallies nD τ sig Unit) (hO : O' = O + tallyAt (barCell p) () 1)
    {k : PUnit → Prog (TpuEff nD τ sig (Elt F) Λ₀ .tc) α} {Q : α → sProp 𝕄} :
    ctx m ρ K ⊢ iprop(OW c O' -∗ dutyTok ER (barCell p) 0 b -∗ lands (F := F) c b
      -∗ (OW c O -∗ run c (k ⟨⟩) Q) -∗ run c (.op (.semSignal (Dev.tc n : Thread nD τ) barS w) k) Q) := by
  subst hw hO hn
  have hpay : (rd (F := F) m ρ).payload (barCell n) 0 b = lands (F := F) c b := by
    show barPay (F := F) n b = _
    unfold barPay; rw [hp]; cases b
    · exact congrArg (fun d => lands (F := F) d false) (pa_pa c)
    · exact congrArg (fun d => lands (F := F) d true) (pb_pb c)
  unfold OW
  iintro #HC ⟨%W, HO⟩ Ht Hl Hk
  iapply (Rounds.wp_signal 𝒱₀ ER (rd m ρ) (c : Thread nD τ) none (dst := (n : Thread nD τ)) (κ := K (n, iBar))
      (d := b) (by rw [duties_bar]; exact Finset.mem_univ _) rfl () O rfl) $$ [HO Ht Hl]
  · isplitr; · iapply (ctx_inv m ρ K (n, iBar)); iexact HC
    isplitl [HO]; · iexact HO
    isplitl [Ht]; · iexact Ht
    isplitl [Hl]; · rw [hpay]; iexact Hl
    iapply (ctx_reached m ρ K (n, iBar)); iexact HC
  iintro HO
  iapply Hk
  iexists W; iexact HO

/-- The wait for both partners: every slot this device will write is its own. -/
theorem barrier_step {w : ℕ} (hw : w = 2) {k : PUnit → Prog (TpuEff nD τ sig (Elt F) Λ₀ .tc) α} {Q : α → sProp 𝕄} :
    ctx m ρ K ⊢ iprop(cred (tallyAt (barCell c) () 2) -∗ atPos ER (barCell c) 0 ∅ 0 -∗ OW c (Orem c 0)
      -∗ ((barPay (F := F) c false ∗ barPay (F := F) c true ∗ semVal (barCell c) 0 ∗ OW c (Orem c 0)) -∗ run c (k ⟨⟩) Q)
      -∗ run c (.op (.semWait barS w) k) Q) := by
  subst hw
  unfold OW
  iintro #HC Hcr Hat ⟨%W, HO⟩ Hk
  iapply (Rounds.wp_wait_rest_token 𝒱₀ ER (rd m ρ) (c : Thread nD τ) none (κ := K (c, iBar))
      (wpE_semWait_eq 𝒱₀ (c : Thread nD τ) none Set.univ) (Set.mem_univ _) () (O := Orem c 0) (W := W) (R := 0) (m := 0) (T := ∅)
      (by rw [expect_bar])) $$ [Hcr HO Hat]
  · isplitr; · iapply (ctx_inv m ρ K (c, iBar)); iexact HC
    isplitl [Hcr]; · iexact Hcr
    isplitl [HO]; · iexact HO
    isplitr; · iapply (ctx_mayWait m ρ K c _ 0 (by decide)); iexact HC
    iexact Hat
  iintro ⟨HO, Hat, -, Hpay⟩
  ihave Hp := (Entails.of_eq (rest_bar m ρ c)) $$ Hpay
  icases Hp with ⟨Hp0, Hp1⟩
  imod (Rounds.cell_close ER (rd m ρ) (Set.mem_univ (K (c, iBar))) (fun h => h) (R := 0 + 1) (duties_later m ρ (barCell c))) $$ [Hat] with Hz
  · isplitr; · iapply (ctx_inv m ρ K (c, iBar)); iexact HC
    iexact Hat
  iapply Hk
  isplitl [Hp0]; · iexact Hp0
  isplitl [Hp1]; · iexact Hp1
  isplitl [Hz]; · iexact Hz
  iexists (insert (SemLoc.reg barS, ()) W); iexact HO

/-- The start of a transfer: the slot's contents go, and the next transfer's turn comes. -/
theorem send_step (k : Fin 12) {n : Dev nD} (hn : n = peer k c) {src dst : Memref sig .tc .vmem S128x1024 .bf16} (hs : src = sMem k) (hd : dst = rMem k)
    {sS sR : SemLoc sig} (hsS : sS = .dma (sendQ k)) (hsR : sR = .dma (recvQ k)) (t t' : ℕ) (ht : t = k.val) (ht' : t' = t + 1)
    {hsc : dst.view.ref.isScScratch = false} {hsrc : src.view.WordExact} {hdst : dst.view.WordExact}
    {hsem : DmaTarget.Typed .vmem sR (.remote (Dev.tc n : Thread nD τ) dst sS hsc)}
    {p : PUnit → Prog (TpuEff nD τ sig (Elt F) Λ₀ .tc) α} {Q : α → sProp 𝕄} :
    ctx m ρ K ⊢ iprop(owns (c : Thread nD τ) (sMem k) fullShare (val m ρ k c) -∗ land (F := F) (peer k c) k -∗ TX c k -∗ OW c (Orem c t)
      -∗ ((SW c k ∗ OW c (Orem c t')) -∗ run c (p ⟨⟩) Q)
      -∗ run c (.op (.enqueueDma src (.remote (Dev.tc n : Thread nD τ) dst sS hsc) sR hsrc hdst hsem) p) Q) := by
  subst hn hs hd hsS hsR ht' ht
  unfold OW land TX SW owns
  iintro #HC ⟨%fs, %hfs, Hs⟩ ⟨%X, %fd, %hfd, Hd⟩ ⟨Ht1, Ht2, Hat⟩ ⟨%W, HO⟩ Hk
  iapply (Rounds.wp_send_pointsTo 𝒱₀ ER (rd m ρ) (c : Thread nD τ) none (κ₁ := K (c, iSend k)) (κ₂ := K (peer k c, iRecv k))
    (r₁ := 0) (r₂ := 0) (d₁ := false) (d₂ := false) (fs := fs) (fd := fd)
    (by rw [duties_send]; exact Finset.mem_singleton_self _) (by rw [duties_recv]; exact Finset.mem_singleton_self _)
    () () dN ((View.amount_dma _ _).trans (rMem_credit k)) (amount_send m ρ c k false) (amount_recv m ρ (peer k c) k false) (Orem c (k.val + 1)) (Orem_step c k) (W := W)
    (by rw [payload_send]; unfold sendPay; rw [← hfs]; exact owns_intro _ _ _ _)
    (by
      rw [payload_recv]; unfold recvPay; rw [peer_peer, ← hfs]
      refine (owns_intro _ _ _ _).trans (Entails.of_eq ?_)
      rw [View.read_write_univ])) $$ [Hs Hd HO Ht1 Ht2]
  · isplitr; · iapply (ctx_inv m ρ K (c, iSend k)); iexact HC
    isplitr; · iapply (ctx_inv m ρ K (peer k c, iRecv k)); iexact HC
    isplitl [Hs]; · iexact Hs
    isplitl [Hd]; · iexact Hd
    isplitl [HO]; · iexact HO
    isplitl [Ht1]; · iexact Ht1
    isplitr; · iapply (ctx_reached m ρ K (c, iSend k)); iexact HC
    isplitl [Ht2]; · iexact Ht2
    iapply (ctx_reached m ρ K (peer k c, iRecv k)); iexact HC
  iintro ⟨Hcr, HO⟩
  iapply Hk
  isplitl [Hcr Hat]
  · isplitl [Hcr] <;> iassumption
  iexists W; iexact HO

/-- The wait for an arriving transfer: the slot holds what the partner sent. -/
theorem recv_step (k : Fin 12) {sR : DmaSem sig} (hsR : sR = recvQ k) {t : ℕ} (ht : k.val < t)
    {sp sp' : Space} {s s' : Shape} {e e' : EltTy} {src : Memref sig .tc sp s e} {dst : Memref sig .tc sp' s' e'} {hx : src.view.WordExact} {hy : dst.view.WordExact} (hd : dst.view.dmaCredit = dN)
    {p : PUnit → Prog (TpuEff nD τ sig (Elt F) Λ₀ .tc) α} {Q : α → sProp 𝕄} :
    ctx m ρ K ⊢ iprop(RX c k -∗ OW c (Orem c t)
      -∗ ((owns (c : Thread nD τ) (rMem k) fullShare (val m ρ k (peer k c)) ∗ semVal (recvCell c k) 0 ∗ OW c (Orem c t)) -∗ run c (p ⟨⟩) Q)
      -∗ run c (.op (TpuEff.waitDma2 (p := .tc) sR src dst hx hy) p) Q) := by
  subst hsR
  unfold OW RX
  iintro #HC ⟨Hcr, Hat⟩ ⟨%W, HO⟩ Hk
  iapply (Rounds.wp_wait_rest_token 𝒱₀ ER (rd m ρ) (c : Thread nD τ) none (κ := K (c, iRecv k)) (k' := dN)
      (by rw [← hd]; exact wpE_waitDma2_eq 𝒱₀ (c : Thread nD τ) none Set.univ) (Set.mem_univ _) () (O := Orem c t) (W := W) (R := 0) (m := 0) (T := ∅)
      (by rw [Nat.zero_add, expect_recv])) $$ [Hcr HO Hat]
  · isplitr; · iapply (ctx_inv m ρ K (c, iRecv k)); iexact HC
    isplitl [Hcr]; · iexact Hcr
    isplitl [HO]; · iexact HO
    isplitr; · iapply (ctx_mayWait m ρ K c _ t (by have := lv_recv c k (); unfold lv at this; rw [this]; omega)); iexact HC
    iexact Hat
  iintro ⟨HO, Hat, -, Hpay⟩
  ihave Hp := (Entails.of_eq (rest_recv m ρ c k)) $$ Hpay
  imod (Rounds.cell_close ER (rd m ρ) (Set.mem_univ (K (c, iRecv k))) (fun h => h) (R := 0 + 1) (duties_later m ρ (recvCell c k))) $$ [Hat] with Hz
  · isplitr; · iapply (ctx_inv m ρ K (c, iRecv k)); iexact HC
    iexact Hat
  iapply Hk
  isplitl [Hp]; · unfold recvPay; iexact Hp
  isplitl [Hz]; · iexact Hz
  iexists (insert (SemLoc.dma (recvQ k), ()) W); iexact HO

/-- The wait for a transfer's sending end: its slot is the device's again. -/
theorem sent_step (k : Fin 12) {sS : DmaSem sig} (hsS : sS = sendQ k) {t : ℕ}
    {sp sp' : Space} {s s' : Shape} {e e' : EltTy} {src : Memref sig .tc sp s e} {dst : Memref sig .tc sp' s' e'} {hx : src.view.WordExact} {hy : dst.view.WordExact} (hd : dst.view.dmaCredit = dN)
    {p : PUnit → Prog (TpuEff nD τ sig (Elt F) Λ₀ .tc) α} {Q : α → sProp 𝕄} :
    ctx m ρ K ⊢ iprop(SW c k -∗ OW c (Orem c t)
      -∗ ((owns (c : Thread nD τ) (sMem k) fullShare (val m ρ k c) ∗ semVal (sendCell c k) 0 ∗ OW c (Orem c t)) -∗ run c (p ⟨⟩) Q)
      -∗ run c (.op (TpuEff.waitDma2 (p := .tc) sS src dst hx hy) p) Q) := by
  subst hsS
  unfold OW SW
  iintro #HC ⟨Hcr, Hat⟩ ⟨%W, HO⟩ Hk
  iapply (Rounds.wp_wait_rest_token 𝒱₀ ER (rd m ρ) (c : Thread nD τ) none (κ := K (c, iSend k)) (k' := dN)
      (by rw [← hd]; exact wpE_waitDma2_eq 𝒱₀ (c : Thread nD τ) none Set.univ) (Set.mem_univ _) () (O := Orem c t) (W := W) (R := 0) (m := 0) (T := ∅)
      (by rw [Nat.zero_add, expect_send])) $$ [Hcr HO Hat]
  · isplitr; · iapply (ctx_inv m ρ K (c, iSend k)); iexact HC
    isplitl [Hcr]; · iexact Hcr
    isplitl [HO]; · iexact HO
    isplitr
    · iapply (ctx_mayWait m ρ K c _ t (by
        have : semLv (.dma (sendQ k)) = 0 := if_neg (by unfold sendQ; dsimp only; omega)
        rw [this]; omega)); iexact HC
    iexact Hat
  iintro ⟨HO, Hat, -, Hpay⟩
  ihave Hp := (Entails.of_eq (rest_send m ρ c k)) $$ Hpay
  imod (Rounds.cell_close ER (rd m ρ) (Set.mem_univ (K (c, iSend k))) (fun h => h) (R := 0 + 1) (duties_later m ρ (sendCell c k))) $$ [Hat] with Hz
  · isplitr; · iapply (ctx_inv m ρ K (c, iSend k)); iexact HC
    iexact Hat
  iapply Hk
  isplitl [Hp]; · unfold sendPay; iexact Hp
  isplitl [Hz]; · iexact Hz
  iexists (insert (SemLoc.dma (sendQ k), ()) W); iexact HO

/-- A slice of a whole buffer at a row block's offset is the row block. -/
theorem acc_slice {off : Fin 2 → ℕ} {inb : ∀ a, off a + S128x1024.size a ≤ S1024x1024.size a} {r : Fin 8} (h : off = ![128 * r.val, 0]) :
    (Memref.whole cc0_scratch0 : Memref sig .tc .vmem S1024x1024 .f32).slice (Rect.unit (s := S1024x1024) off S128x1024.size inb) (fun _ => rfl) = accMem r := by
  subst h; rfl
theorem out_slice {off : Fin 2 → ℕ} {inb : ∀ a, off a + S128x1024.size a ≤ S1024x1024.size a} {r : Fin 8} (h : off = ![128 * r.val, 0]) :
    (Memref.whole main_v1 : Memref sig .tc .hbm S1024x1024 .f32).slice (Rect.unit (s := S1024x1024) off S128x1024.size inb) (fun _ => rfl) = outMem r := by
  subst h; rfl

/-- The start of a copy of a finished row block into the result. -/
theorem copy_step (i r : Fin 8) (hr : r = blkOf i c) (X : FVec F S128x1024 .f32) (hX : X = fin m ρ i c) {src : Memref sig .tc .vmem S128x1024 .f32} {dst : Memref sig .tc .hbm S128x1024 .f32}
    (hs : src = accMem r) (hd : dst = outMem r) {sem : SemLoc sig} (hsem : sem = .dma (copyQ i))
    {hsrc : src.view.WordExact} {hdst : dst.view.WordExact} {hty : DmaTarget.Typed (nD := nD) .vmem sem (DmaTarget.here (p := .tc) dst)}
    {p : PUnit → Prog (TpuEff nD τ sig (Elt F) Λ₀ .tc) α} {Q : α → sProp 𝕄} :
    ctx m ρ K ⊢ iprop(owns (c : Thread nD τ) (accMem r) fullShare X -∗ (∃ X, owns (c : Thread nD τ) (outMem r) fullShare X) -∗ TC c i
      -∗ (CW c i -∗ run c (p ⟨⟩) Q)
      -∗ run c (.op (.enqueueDma src (DmaTarget.here (p := .tc) dst) sem hsrc hdst hty) p) Q) := by
  subst hs hd hsem hr hX
  unfold owns TC CW
  iintro #HC ⟨%fs, %hfs, Hs⟩ ⟨%X, %fd, %hfd, Hd⟩ ⟨Ht, Hat⟩ Hk
  iapply (Rounds.wp_copy_pointsTo 𝒱₀ ER (rd m ρ) (c : Thread nD τ) none (κ := K (c, iCopy i))
    (r := 0) (d := false) (fs := fs) (fd := fd)
    (by rw [duties_copy]; exact Finset.mem_singleton_self _) () cN ((View.amount_dma _ _).trans (outMem_credit (blkOf i c))) (amount_copy m ρ c i false)
    (by
      rw [payload_copy]; unfold copyPay; rw [← hfs]
      refine BI.sep_mono ((owns_intro _ _ _ _).trans (Entails.of_eq ?_)) (owns_intro _ _ _ _)
      rw [View.read_write_univ])) $$ [Hs Hd Ht]
  · isplitr; · iapply (ctx_inv m ρ K (c, iCopy i)); iexact HC
    isplitl [Hs]; · iexact Hs
    isplitl [Hd]; · iexact Hd
    isplitl [Ht]; · iexact Ht
    iapply (ctx_reached m ρ K (c, iCopy i)); iexact HC
  iintro Hcr
  iapply Hk
  isplitl [Hcr] <;> iassumption

/-- The wait for a copy: the result's row block is written. -/
theorem copied_step (i : Fin 8) {sem : DmaSem sig} (hsem : sem = copyQ i) {t : ℕ}
    {sp : Space} {s' : Shape} {e : EltTy} {src : Memref sig .tc sp s' e} {off : Fin 2 → ℕ} {inb : ∀ a, off a + S128x1024.size a ≤ S1024x1024.size a}
    {hx : src.view.WordExact} {hy : ((Memref.whole main_v1 : Memref sig .tc .hbm S1024x1024 .f32).slice (Rect.unit (s := S1024x1024) off S128x1024.size inb) (fun _ => rfl)).view.WordExact}
    {p : PUnit → Prog (TpuEff nD τ sig (Elt F) Λ₀ .tc) α} {Q : α → sProp 𝕄} :
    ctx m ρ K ⊢ iprop(CW c i -∗ OW c (Orem c t)
      -∗ ((copyPay m ρ c i ∗ semVal (copyCell c i) 0 ∗ OW c (Orem c t)) -∗ run c (p ⟨⟩) Q)
      -∗ run c (.op (TpuEff.waitDma2 (p := .tc) sem src
          ((Memref.whole main_v1 : Memref sig .tc .hbm S1024x1024 .f32).slice (Rect.unit (s := S1024x1024) off S128x1024.size inb) (fun _ => rfl)) hx hy) p) Q) := by
  have hd : ((Memref.whole main_v1 : Memref sig .tc .hbm S1024x1024 .f32).slice (Rect.unit (s := S1024x1024) off S128x1024.size inb) (fun _ => rfl)).view.dmaCredit = cN := outMem_credit 0
  subst hsem
  unfold OW CW
  iintro #HC ⟨Hcr, Hat⟩ ⟨%W, HO⟩ Hk
  iapply (Rounds.wp_wait_rest_token 𝒱₀ ER (rd m ρ) (c : Thread nD τ) none (κ := K (c, iCopy i)) (k' := cN)
      (by rw [← hd]; exact wpE_waitDma2_eq 𝒱₀ (c : Thread nD τ) none Set.univ) (Set.mem_univ _) () (O := Orem c t) (W := W) (R := 0) (m := 0) (T := ∅)
      (by rw [Nat.zero_add, expect_copy])) $$ [Hcr HO Hat]
  · isplitr; · iapply (ctx_inv m ρ K (c, iCopy i)); iexact HC
    isplitl [Hcr]; · iexact Hcr
    isplitl [HO]; · iexact HO
    isplitr
    · iapply (ctx_mayWait m ρ K c _ t (by
        have : semLv (.dma (copyQ i)) = 0 := if_neg (by unfold copyQ; dsimp only; omega)
        rw [this]; omega)); iexact HC
    iexact Hat
  iintro ⟨HO, Hat, -, Hpay⟩
  ihave Hp := (Entails.of_eq (rest_copy m ρ c i)) $$ Hpay
  imod (Rounds.cell_close ER (rd m ρ) (Set.mem_univ (K (c, iCopy i))) (fun h => h) (R := 0 + 1) (duties_later m ρ (copyCell c i))) $$ [Hat] with Hz
  · isplitr; · iapply (ctx_inv m ρ K (c, iCopy i)); iexact HC
    iexact Hat
  iapply Hk
  isplitl [Hp]; · iexact Hp
  isplitl [Hz]; · iexact Hz
  iexists (insert (SemLoc.dma (copyQ i), ()) W); iexact HO

end Steps

end Cert.Work

end
-- ==== Proof.Vals.lean ====
/- What the kernel's arithmetic makes of the contents at hand: each stored or carried value by the name the schedule gives it. -/
module

public import proofs.«01_k».proof.Proof.Ops

@[expose] public section

set_option maxRecDepth 16384

noncomputable section

namespace Cert.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

/-! ## First stage: products of the blocks sent away, then of the kept ones -/

theorem pay2_eq : k0_pay2 (k0_pay1 (aRows (xA m ρ c) (sendB 0 c)) (bAll (xB m ρ c))) = unsq (val m ρ 0 c) := by
  unfold k0_pay2 k0_pay1; simp only [shapeCast_self, shapeCast_shapeCast]; rfl
theorem pay3_eq : k0_pay3 (aRows (xA m ρ c) (sendB 1 c)) (bAll (xB m ρ c)) = unsq (val m ρ 1 c) := by
  unfold k0_pay3; simp only [shapeCast_self, shapeCast_shapeCast]; rfl
theorem pay4_eq : k0_pay4 (aRows (xA m ρ c) (sendB 2 c)) (bAll (xB m ρ c)) = unsq (val m ρ 2 c) := by
  unfold k0_pay4; simp only [shapeCast_self, shapeCast_shapeCast]; rfl
theorem pay5_eq : k0_pay5 (aRows (xA m ρ c) (sendB 3 c)) (bAll (xB m ρ c)) = unsq (val m ρ 3 c) := by
  unfold k0_pay5; simp only [shapeCast_self, shapeCast_shapeCast]; rfl
theorem pay6_eq : k0_pay6 (aRows (xA m ρ c) (keepB 0 c)) (bAll (xB m ρ c)) = T0 m ρ 0 c := by
  unfold k0_pay6; simp only [shapeCast_self, shapeCast_shapeCast]; rfl
theorem pay7_eq : k0_pay7 (aRows (xA m ρ c) (keepB 1 c)) (bAll (xB m ρ c)) = T0 m ρ 1 c := by
  unfold k0_pay7; simp only [shapeCast_self, shapeCast_shapeCast]; rfl
theorem pay8_eq : k0_pay8 (aRows (xA m ρ c) (keepB 2 c)) (bAll (xB m ρ c)) = T0 m ρ 2 c := by
  unfold k0_pay8; simp only [shapeCast_self, shapeCast_shapeCast]; rfl
theorem pay9_eq : k0_pay9 (aRows (xA m ρ c) (keepB 3 c)) (bAll (xB m ρ c)) = T0 m ρ 3 c := by
  unfold k0_pay9; simp only [shapeCast_self, shapeCast_shapeCast]; rfl

/-! ## Second stage: the first partner's share added, kept and sent on -/

theorem pay11_eq : k0_pay11 (T0 m ρ 0 c) (unsq (val m ρ 0 (peer 0 c))) = unsq (val m ρ 4 c) := by
  unfold k0_pay11 k0_pay10; simp only [shapeCast_self, shapeCast_shapeCast]; rfl
theorem pay12_eq : k0_pay12 (k0_pay10 (T0 m ρ 0 c) (unsq (val m ρ 0 (peer 0 c)))) = T1 m ρ 0 c := by
  unfold k0_pay12 k0_pay10; simp only [shapeCast_self, shapeCast_shapeCast]; rfl
theorem pay14_eq : k0_pay14 (T0 m ρ 1 c) (unsq (val m ρ 1 (peer 1 c))) = unsq (val m ρ 5 c) := by
  unfold k0_pay14 k0_pay13; simp only [shapeCast_self, shapeCast_shapeCast]; rfl
theorem pay15_eq : k0_pay15 (T0 m ρ 1 c) (unsq (val m ρ 1 (peer 1 c))) = T1 m ρ 1 c := by
  unfold k0_pay15 k0_pay13; simp only [shapeCast_self, shapeCast_shapeCast]; rfl
theorem pay17_eq : k0_pay17 (T0 m ρ 2 c) (unsq (val m ρ 2 (peer 2 c))) = unsq (val m ρ 6 c) := by
  unfold k0_pay17 k0_pay16; simp only [shapeCast_self, shapeCast_shapeCast]; rfl
theorem pay18_eq : k0_pay18 (k0_pay16 (T0 m ρ 2 c) (unsq (val m ρ 2 (peer 2 c)))) = T1 m ρ 2 c := by
  unfold k0_pay18 k0_pay16; simp only [shapeCast_self, shapeCast_shapeCast]; rfl
theorem pay20_eq : k0_pay20 (T0 m ρ 3 c) (unsq (val m ρ 3 (peer 3 c))) = unsq (val m ρ 7 c) := by
  unfold k0_pay20 k0_pay19; simp only [shapeCast_self, shapeCast_shapeCast]; rfl
theorem pay21_eq : k0_pay21 (k0_pay19 (T0 m ρ 3 c) (unsq (val m ρ 3 (peer 3 c)))) = T1 m ρ 3 c := by
  unfold k0_pay21 k0_pay19; simp only [shapeCast_self, shapeCast_shapeCast]; rfl

/-! ## Third stage: the second partner's share added, kept and sent back -/

theorem pay23_eq : k0_pay23 (T1 m ρ 0 c) (unsq (val m ρ 4 (peer 4 c))) = T2 m ρ 0 c := by
  unfold k0_pay23 k0_pay22; simp only [shapeCast_self, shapeCast_shapeCast]; rfl
theorem pay24_eq : k0_pay24 (k0_pay22 (T1 m ρ 0 c) (unsq (val m ρ 4 (peer 4 c)))) = unsq (val m ρ 8 c) := by
  unfold k0_pay24 k0_pay22; simp only [shapeCast_self, shapeCast_shapeCast]; rfl
theorem pay26_eq : k0_pay26 (T1 m ρ 1 c) (unsq (val m ρ 5 (peer 5 c))) = T2 m ρ 1 c := by
  unfold k0_pay26 k0_pay25; simp only [shapeCast_self, shapeCast_shapeCast]; rfl
theorem pay27_eq : k0_pay27 (T1 m ρ 1 c) (unsq (val m ρ 5 (peer 5 c))) = unsq (val m ρ 9 c) := by
  unfold k0_pay27 k0_pay25; simp only [shapeCast_self, shapeCast_shapeCast]; rfl
theorem pay29_eq : k0_pay29 (T1 m ρ 2 c) (unsq (val m ρ 6 (peer 6 c))) = T2 m ρ 2 c := by
  unfold k0_pay29 k0_pay28; simp only [shapeCast_self, shapeCast_shapeCast]; rfl
theorem pay30_eq : k0_pay30 (T1 m ρ 2 c) (unsq (val m ρ 6 (peer 6 c))) = unsq (val m ρ 10 c) := by
  unfold k0_pay30 k0_pay28; simp only [shapeCast_self, shapeCast_shapeCast]; rfl
theorem pay32_eq : k0_pay32 (T1 m ρ 3 c) (unsq (val m ρ 7 (peer 7 c))) = T2 m ρ 3 c := by
  unfold k0_pay32 k0_pay31; simp only [shapeCast_self, shapeCast_shapeCast]; rfl
theorem pay33_eq : k0_pay33 (T1 m ρ 3 c) (unsq (val m ρ 7 (peer 7 c))) = unsq (val m ρ 11 c) := by
  unfold k0_pay33 k0_pay31; simp only [shapeCast_self, shapeCast_shapeCast]; rfl

/-! ## The blocks received complete -/

theorem pay34_eq : k0_pay34 (unsq (val m ρ 8 (peer 8 c))) = R3 m ρ 0 c := by
  unfold k0_pay34; simp only [shapeCast_self, shapeCast_shapeCast]; rfl
theorem pay35_eq : k0_pay35 (unsq (val m ρ 9 (peer 9 c))) = R3 m ρ 1 c := by
  unfold k0_pay35; simp only [shapeCast_self, shapeCast_shapeCast]; rfl
theorem pay36_eq : k0_pay36 (unsq (val m ρ 10 (peer 10 c))) = R3 m ρ 2 c := by
  unfold k0_pay36; simp only [shapeCast_self, shapeCast_shapeCast]; rfl
theorem pay38_eq : k0_pay38 (k0_pay37 (unsq (val m ρ 11 (peer 11 c)))) = R3 m ρ 3 c := by
  unfold k0_pay38 k0_pay37; simp only [shapeCast_self, shapeCast_shapeCast]; rfl

end Cert.Work

end
-- ==== Proof.Body.lean ====
/- The kernel's body at a symbolic device, run once through from its first signal to its last wait. -/
module

public import proofs.«01_k».proof.Proof.Vals

@[expose] public section

set_option maxRecDepth 16384

noncomputable section

namespace Cert.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- What both partners hand over: the slots this device will write. -/
theorem slots_of_bar (c : Dev nD) :
    iprop(barPay (F := F) c false ∗ barPay (F := F) c true) ⊢ (bigSep Finset.univ fun k : Fin 12 => land (F := F) (peer k c) k : sProp 𝕄) := by
  have hl (d : Dev nD) (b : Bool) (hd : ∀ k : Fin 12, toA k ≠ b → peer k c = d) :
      lands (F := F) d b = bigSep (Finset.univ.filter fun k => toA k ≠ b) (fun k => land (F := F) (peer k c) k) := by
    unfold lands
    exact bigSep_congr fun k hk => by rw [hd k (Finset.mem_filter.1 hk).2]
  have h0 := hl (pa c) false (fun k hk => by unfold peer; rw [if_pos (by simpa using hk)])
  have h1 := hl (pb c) true (fun k hk => by unfold peer; rw [if_neg (by simpa using hk)])
  unfold barPay
  rw [if_neg (by decide), if_pos rfl, h0, h1]
  rw [bigSep_filter_split Finset.univ (fun k : Fin 12 => toA k ≠ false) (Φ := fun k => land (F := F) (peer k c) k),
    show (Finset.univ.filter fun k : Fin 12 => ¬ toA k ≠ false) = Finset.univ.filter fun k => toA k ≠ true by decide]
  exact BI.Entails.refl _

theorem blkOf_eqs (c : Dev nD) : blkOf 0 c = keepB 0 c ∧ blkOf 1 c = keepB 2 c ∧ blkOf 2 c = keepB 1 c ∧ blkOf 3 c = keepB 3 c
    ∧ blkOf 4 c = sendB 0 c ∧ blkOf 5 c = sendB 2 c ∧ blkOf 6 c = sendB 1 c ∧ blkOf 7 c = sendB 3 c :=
  ⟨rfl, rfl, rfl, rfl, rfl, rfl, rfl, rfl⟩

/-- A device's landing slots, by which partner writes them. -/
theorem lands_split (c : Dev nD) :
    (bigSep Finset.univ (land (F := F) c) : sProp 𝕄) ⊢ iprop(lands (F := F) c false ∗ lands (F := F) c true) := by
  unfold lands
  rw [bigSep_filter_split Finset.univ (fun k : Fin 12 => toA k ≠ false) (Φ := land (F := F) c),
    show (Finset.univ.filter fun k : Fin 12 => ¬ toA k ≠ false) = Finset.univ.filter fun k => toA k ≠ true by decide]
  exact BI.Entails.refl _

/-- A memref at some contents. -/
abbrev anyOf (c : Dev nD) {sp : Space} {s : Shape} {e : EltTy} (M : Memref sig .tc sp s e) : sProp 𝕄 := iprop(∃ X, owns (c : Thread nD τ) M fullShare X)

/-- The staged operands. -/
def staged (c : Dev nD) : sProp 𝕄 :=
  iprop((((c : Thread nD τ).loc cc0_stg0_0) ↦{fullShare} xA m ρ c) ∗ (((c : Thread nD τ).loc cc0_stg1_0) ↦{fullShare} xB m ρ c))

/-- What the body starts from. -/
def bodyIn (c : Dev nD) : sProp 𝕄 :=
  iprop(staged m ρ c ∗ OW (F := F) c (O₀ c)
    ∗ (dutyTok ER (barCell (pa c)) 0 false ∗ dutyTok ER (barCell (pb c)) 0 true ∗ cred (tallyAt (barCell c) () 2) ∗ atPos ER (barCell c) 0 ∅ 0)
    ∗ lands (F := F) c false ∗ lands (F := F) c true
    ∗ (bigSep Finset.univ fun k : Fin 12 => anyOf (F := F) c (sMem k))
    ∗ (bigSep Finset.univ fun k : Fin 12 => TX (F := F) c k) ∗ (bigSep Finset.univ fun k : Fin 12 => RX (F := F) c k)
    ∗ (bigSep Finset.univ fun i : Fin 8 => anyOf (F := F) c (accMem (blkOf i c)))
    ∗ (bigSep Finset.univ fun i : Fin 8 => anyOf (F := F) c (outMem (blkOf i c)))
    ∗ (bigSep Finset.univ fun i : Fin 8 => TC (F := F) c i))

/-- What it leaves. -/
def bodyOut (c : Dev nD) : sProp 𝕄 :=
  iprop(staged m ρ c ∗ OW (F := F) c 0 ∗ semVal (barCell c) 0
    ∗ (bigSep Finset.univ fun k : Fin 12 => iprop(owns (c : Thread nD τ) (rMem k) fullShare (val m ρ k (peer k c)) ∗ semVal (recvCell c k) 0))
    ∗ (bigSep Finset.univ fun k : Fin 12 => iprop(owns (c : Thread nD τ) (sMem k) fullShare (val m ρ k c) ∗ semVal (sendCell c k) 0))
    ∗ (bigSep Finset.univ fun i : Fin 8 => iprop(copyPay m ρ c i ∗ semVal (copyCell c i) 0)))

set_option maxHeartbeats 16000000 in
/-- The body, run from what it starts from to what it leaves, one rule per operation in program order. -/
theorem body_run (c : Dev nD) (Q : PUnit → sProp 𝕄) :
    iprop(ctx m ρ K ∗ bodyIn m ρ c ∗ (bodyOut m ρ c -∗ Q ⟨⟩))
      ⊢ run c (cc0_body (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) cc0_scratch7 cc0_scratch8 cc0_scratch9) Q := by
  rw [cc0_body_eq_skeleton]; unfold cc0_body_skel
  rw [k0_part1_eq_skeleton]; unfold k0_part1_skel
  simp only [Prog.lift, Prog.bind_op, Prog.bind_ret, Prog.pure_eq_ret, semSignalWord, semWaitWord, wp_deviceId]
  unfold bodyIn staged
  obtain ⟨e0, e1, e2, e3, e4, e5, e6, e7⟩ := blkOf_eqs c
  simp only [bigSep_fin8, bigSep_fin12, e0, e1, e2, e3, e4, e5, e6, e7]
  iintro ⟨#HC, ⟨⟨Ha, Hb⟩, HO, ⟨Ht1, Ht2, Hcr, Hat⟩, Hl1, Hl2,
    ⟨⟨%_, S0⟩, ⟨%_, S1⟩, ⟨%_, S2⟩, ⟨%_, S3⟩, ⟨%_, S4⟩, ⟨%_, S5⟩, ⟨%_, S6⟩, ⟨%_, S7⟩, ⟨%_, S8⟩, ⟨%_, S9⟩, ⟨%_, S10⟩, ⟨%_, S11⟩⟩,
    ⟨X0, X1, X2, X3, X4, X5, X6, X7, X8, X9, X10, X11⟩, ⟨R0, R1, R2, R3, R4, R5, R6, R7, R8, R9, R10, R11⟩,
    ⟨⟨%_, A0⟩, ⟨%_, A2⟩, ⟨%_, A1⟩, ⟨%_, A3⟩, ⟨%_, B0⟩, ⟨%_, B2⟩, ⟨%_, B1⟩, ⟨%_, B3⟩⟩,
    ⟨U0, U2, U1, U3, W0, W2, W1, W3⟩, ⟨C0, C1, C2, C3, C4, C5, C6, C7⟩⟩, Hk⟩
  -- part 2
  rw [k0_part2_eq_skeleton]; unfold k0_part2_skel
  simp only [Prog.lift, Prog.bind_op, Prog.bind_ret, Prog.pure_eq_ret, semSignalWord, semWaitWord]
  iapply (signal_step m ρ K c false (pa c) rfl (dev1_eq c) (by decide) (O₀ c) (O₁ c) rfl) $$ HC HO Ht1 Hl1; iintro HO
  iapply (signal_step m ρ K c true (pb c) rfl (dev2_eq c) (by decide) (O₁ c) (Orem c 0) rfl) $$ HC HO Ht2 Hl2; iintro HO
  iapply (barrier_step m ρ K c (by decide)) $$ HC Hcr Hat HO; iintro ⟨Hp1, Hp2, HZ, HO⟩
  ihave HD := (slots_of_bar (F := F) c) $$ [Hp1 Hp2]
  · isplitl [Hp1] <;> iassumption
  simp only [bigSep_fin12]
  icases HD with ⟨D0, D1, D2, D3, D4, D5, D6, D7, D8, D9, D10, D11⟩
  iapply (load_a c (sendB 0 c) (off1_eq0 c)) $$ Ha; iintro Ha
  iapply (load_b c) $$ Hb; iintro Hb
  -- part 3
  rw [k0_part3_eq_skeleton]; unfold k0_part3_skel
  simp only [Prog.lift, Prog.bind_op, Prog.bind_ret, Prog.pure_eq_ret]
  iapply (peek_slot c (sMem 0) rfl) $$ S0; iintro %_ S0
  iapply (store_slot c (sMem 0) rfl (val m ρ 0 c) (pay2_eq m ρ c)) $$ S0; iintro S0
  iapply (send_step m ρ K c 0 (dev3_eq c) rfl rfl rfl rfl 0 1 rfl rfl) $$ HC S0 D0 X0 HO; iintro ⟨S0, HO⟩
  iapply (load_a c (sendB 1 c) (off2_eq0 c)) $$ Ha; iintro Ha
  iapply (load_b c) $$ Hb; iintro Hb
  iapply (peek_slot c (sMem 1) rfl) $$ S1; iintro %_ S1
  iapply (store_slot c (sMem 1) rfl (val m ρ 1 c) (pay3_eq m ρ c)) $$ S1; iintro S1
  -- part 4
  rw [k0_part4_eq_skeleton]; unfold k0_part4_skel
  simp only [Prog.lift, Prog.bind_op, Prog.bind_ret, Prog.pure_eq_ret]
  iapply (send_step m ρ K c 1 (dev4_eq c) rfl rfl rfl rfl 1 2 rfl rfl) $$ HC S1 D1 X1 HO; iintro ⟨S1, HO⟩
  iapply (load_a c (sendB 2 c) (off1_eq1 c)) $$ Ha; iintro Ha
  iapply (load_b c) $$ Hb; iintro Hb
  iapply (peek_slot c (sMem 2) rfl) $$ S2; iintro %_ S2
  iapply (store_slot c (sMem 2) rfl (val m ρ 2 c) (pay4_eq m ρ c)) $$ S2; iintro S2
  -- part 5
  rw [k0_part5_eq_skeleton]; unfold k0_part5_skel
  simp only [Prog.lift, Prog.bind_op, Prog.bind_ret, Prog.pure_eq_ret]
  iapply (send_step m ρ K c 2 (dev5_eq c) rfl rfl rfl rfl 2 3 rfl rfl) $$ HC S2 D2 X2 HO; iintro ⟨S2, HO⟩
  iapply (load_a c (sendB 3 c) (off2_eq1 c)) $$ Ha; iintro Ha
  iapply (load_b c) $$ Hb; iintro Hb
  iapply (peek_slot c (sMem 3) rfl) $$ S3; iintro %_ S3
  iapply (store_slot c (sMem 3) rfl (val m ρ 3 c) (pay5_eq m ρ c)) $$ S3; iintro S3
  -- part 6
  rw [k0_part6_eq_skeleton]; unfold k0_part6_skel
  simp only [Prog.lift, Prog.bind_op, Prog.bind_ret, Prog.pure_eq_ret]
  iapply (send_step m ρ K c 3 (dev6_eq c) rfl rfl rfl rfl 3 4 rfl rfl) $$ HC S3 D3 X3 HO; iintro ⟨S3, HO⟩
  iapply (load_a c (keepB 0 c) (off3_eq c)) $$ Ha; iintro Ha
  iapply (load_b c) $$ Hb; iintro Hb
  iapply (load_acc c (keepB 0 c) (off4_eq c)) $$ A0; iintro A0
  iapply (store_acc c (keepB 0 c) (off4_eq c) (T0 m ρ 0 c) (pay6_eq m ρ c)) $$ A0; iintro A0
  iapply (load_a c (keepB 1 c) (off5_eq c)) $$ Ha; iintro Ha
  iapply (load_b c) $$ Hb; iintro Hb
  iapply (load_acc c (keepB 1 c) (off6_eq c)) $$ A1; iintro A1
  iapply (store_acc c (keepB 1 c) (off6_eq c) (T0 m ρ 1 c) (pay7_eq m ρ c)) $$ A1; iintro A1
  iapply (load_a c (keepB 2 c) (off7_eq c)) $$ Ha; iintro Ha
  iapply (load_b c) $$ Hb; iintro Hb
  iapply (load_acc c (keepB 2 c) (off8_eq1 c)) $$ A2; iintro A2
  iapply (store_acc c (keepB 2 c) (off8_eq1 c) (T0 m ρ 2 c) (pay8_eq m ρ c)) $$ A2; iintro A2
  -- part 7
  rw [k0_part7_eq_skeleton]; unfold k0_part7_skel
  simp only [Prog.lift, Prog.bind_op, Prog.bind_ret, Prog.pure_eq_ret]
  iapply (load_a c (keepB 3 c) (off9_eq c)) $$ Ha; iintro Ha
  iapply (load_b c) $$ Hb; iintro Hb
  iapply (load_acc c (keepB 3 c) (off10_eq1 c)) $$ A3; iintro A3
  iapply (store_acc c (keepB 3 c) (off10_eq1 c) (T0 m ρ 3 c) (pay9_eq m ρ c)) $$ A3; iintro A3
  iapply (recv_step m ρ K c 0 rfl (t := 4) (by decide) (dst := rMem 0) (rMem_credit 0)) $$ HC R0 HO; iintro ⟨D0, R0, HO⟩
  iapply (load_acc c (keepB 0 c) (off8_eq0 c)) $$ A0; iintro A0
  iapply (load_slot c (rMem 0) rfl) $$ D0; iintro D0
  iapply (load_slot c (sMem 4) rfl) $$ S4; iintro S4
  iapply (store_slot c (sMem 4) rfl (val m ρ 4 c) (pay11_eq m ρ c)) $$ S4; iintro S4
  -- part 8
  rw [k0_part8_eq_skeleton]; unfold k0_part8_skel
  simp only [Prog.lift, Prog.bind_op, Prog.bind_ret, Prog.pure_eq_ret]
  iapply (send_step m ρ K c 4 (dev7_eq c) rfl rfl rfl rfl 4 5 rfl rfl) $$ HC S4 D4 X4 HO; iintro ⟨S4, HO⟩
  iapply (load_acc c (keepB 0 c) (off8_eq0 c)) $$ A0; iintro A0
  iapply (store_acc c (keepB 0 c) (off8_eq0 c) (T1 m ρ 0 c) (pay12_eq m ρ c)) $$ A0; iintro A0
  iapply (recv_step m ρ K c 1 rfl (t := 5) (by decide) (dst := rMem 1) (rMem_credit 1)) $$ HC R1 HO; iintro ⟨D1, R1, HO⟩
  iapply (load_acc c (keepB 1 c) (off10_eq0 c)) $$ A1; iintro A1
  -- part 9
  rw [k0_part9_eq_skeleton]; unfold k0_part9_skel
  simp only [Prog.lift, Prog.bind_op, Prog.bind_ret, Prog.pure_eq_ret]
  iapply (load_slot c (rMem 1) rfl) $$ D1; iintro D1
  iapply (load_slot c (sMem 5) rfl) $$ S5; iintro S5
  iapply (store_slot c (sMem 5) rfl (val m ρ 5 c) (pay14_eq m ρ c)) $$ S5; iintro S5
  iapply (send_step m ρ K c 5 (dev8_eq c) rfl rfl rfl rfl 5 6 rfl rfl) $$ HC S5 D5 X5 HO; iintro ⟨S5, HO⟩
  iapply (load_acc c (keepB 1 c) (off10_eq0 c)) $$ A1; iintro A1
  iapply (store_acc c (keepB 1 c) (off10_eq0 c) (T1 m ρ 1 c) (pay15_eq m ρ c)) $$ A1; iintro A1
  -- part 10
  rw [k0_part10_eq_skeleton]; unfold k0_part10_skel
  simp only [Prog.lift, Prog.bind_op, Prog.bind_ret, Prog.pure_eq_ret]
  iapply (recv_step m ρ K c 2 rfl (t := 6) (by decide) (dst := rMem 2) (rMem_credit 2)) $$ HC R2 HO; iintro ⟨D2, R2, HO⟩
  iapply (load_acc c (keepB 2 c) (off8_eq1 c)) $$ A2; iintro A2
  iapply (load_slot c (rMem 2) rfl) $$ D2; iintro D2
  iapply (load_slot c (sMem 6) rfl) $$ S6; iintro S6
  iapply (store_slot c (sMem 6) rfl (val m ρ 6 c) (pay17_eq m ρ c)) $$ S6; iintro S6
  iapply (send_step m ρ K c 6 (dev9_eq c) rfl rfl rfl rfl 6 7 rfl rfl) $$ HC S6 D6 X6 HO; iintro ⟨S6, HO⟩
  iapply (load_acc c (keepB 2 c) (off8_eq1 c)) $$ A2; iintro A2
  -- part 11
  rw [k0_part11_eq_skeleton]; unfold k0_part11_skel
  simp only [Prog.lift, Prog.bind_op, Prog.bind_ret, Prog.pure_eq_ret]
  iapply (store_acc c (keepB 2 c) (off8_eq1 c) (T1 m ρ 2 c) (pay18_eq m ρ c)) $$ A2; iintro A2
  iapply (recv_step m ρ K c 3 rfl (t := 7) (by decide) (dst := rMem 3) (rMem_credit 3)) $$ HC R3 HO; iintro ⟨D3, R3, HO⟩
  iapply (load_acc c (keepB 3 c) (off10_eq1 c)) $$ A3; iintro A3
  iapply (load_slot c (rMem 3) rfl) $$ D3; iintro D3
  iapply (load_slot c (sMem 7) rfl) $$ S7; iintro S7
  iapply (store_slot c (sMem 7) rfl (val m ρ 7 c) (pay20_eq m ρ c)) $$ S7; iintro S7
  -- part 12
  rw [k0_part12_eq_skeleton]; unfold k0_part12_skel
  simp only [Prog.lift, Prog.bind_op, Prog.bind_ret, Prog.pure_eq_ret]
  iapply (send_step m ρ K c 7 (dev10_eq c) rfl rfl rfl rfl 7 8 rfl rfl) $$ HC S7 D7 X7 HO; iintro ⟨S7, HO⟩
  iapply (load_acc c (keepB 3 c) (off10_eq1 c)) $$ A3; iintro A3
  iapply (store_acc c (keepB 3 c) (off10_eq1 c) (T1 m ρ 3 c) (pay21_eq m ρ c)) $$ A3; iintro A3
  iapply (recv_step m ρ K c 4 rfl (t := 8) (by decide) (dst := rMem 4) (rMem_credit 4)) $$ HC R4 HO; iintro ⟨D4, R4, HO⟩
  iapply (load_acc c (keepB 0 c) (off8_eq0 c)) $$ A0; iintro A0
  iapply (load_slot c (rMem 4) rfl) $$ D4; iintro D4
  iapply (load_acc c (keepB 0 c) (off8_eq0 c)) $$ A0; iintro A0
  iapply (store_acc c (keepB 0 c) (off8_eq0 c) (T2 m ρ 0 c) (pay23_eq m ρ c)) $$ A0; iintro A0
  -- part 13
  rw [k0_part13_eq_skeleton]; unfold k0_part13_skel
  simp only [Prog.lift, Prog.bind_op, Prog.bind_ret, Prog.pure_eq_ret]
  iapply (load_slot c (sMem 8) rfl) $$ S8; iintro S8
  iapply (store_slot c (sMem 8) rfl (val m ρ 8 c) (pay24_eq m ρ c)) $$ S8; iintro S8
  iapply (send_step m ρ K c 8 (dev11_eq c) rfl rfl rfl rfl 8 9 rfl rfl) $$ HC S8 D8 X8 HO; iintro ⟨S8, HO⟩
  iapply (copy_step m ρ K c 0 (keepB 0 c) rfl (T2 m ρ 0 c) rfl (acc_slice (off11_eq0 c)) (out_slice (off11_eq0 c)) rfl) $$ HC A0 U0 C0; iintro C0
  -- part 14
  rw [k0_part14_eq_skeleton]; unfold k0_part14_skel
  simp only [Prog.lift, Prog.bind_op, Prog.bind_ret, Prog.pure_eq_ret]
  iapply (recv_step m ρ K c 5 rfl (t := 9) (by decide) (dst := rMem 5) (rMem_credit 5)) $$ HC R5 HO; iintro ⟨D5, R5, HO⟩
  iapply (load_acc c (keepB 1 c) (off10_eq0 c)) $$ A1; iintro A1
  iapply (load_slot c (rMem 5) rfl) $$ D5; iintro D5
  iapply (load_acc c (keepB 1 c) (off10_eq0 c)) $$ A1; iintro A1
  iapply (store_acc c (keepB 1 c) (off10_eq0 c) (T2 m ρ 1 c) (pay26_eq m ρ c)) $$ A1; iintro A1
  iapply (load_slot c (sMem 9) rfl) $$ S9; iintro S9
  iapply (store_slot c (sMem 9) rfl (val m ρ 9 c) (pay27_eq m ρ c)) $$ S9; iintro S9
  iapply (send_step m ρ K c 9 (dev12_eq c) rfl rfl rfl rfl 9 10 rfl rfl) $$ HC S9 D9 X9 HO; iintro ⟨S9, HO⟩
  -- part 15
  rw [k0_part15_eq_skeleton]; unfold k0_part15_skel
  simp only [Prog.lift, Prog.bind_op, Prog.bind_ret, Prog.pure_eq_ret]
  iapply (copy_step m ρ K c 2 (keepB 1 c) rfl (T2 m ρ 1 c) rfl (acc_slice (off12_eq0 c)) (out_slice (off12_eq0 c)) rfl) $$ HC A1 U1 C2; iintro C2
  iapply (recv_step m ρ K c 6 rfl (t := 10) (by decide) (dst := rMem 6) (rMem_credit 6)) $$ HC R6 HO; iintro ⟨D6, R6, HO⟩
  iapply (load_acc c (keepB 2 c) (off8_eq1 c)) $$ A2; iintro A2
  iapply (load_slot c (rMem 6) rfl) $$ D6; iintro D6
  iapply (load_acc c (keepB 2 c) (off8_eq1 c)) $$ A2; iintro A2
  iapply (store_acc c (keepB 2 c) (off8_eq1 c) (T2 m ρ 2 c) (pay29_eq m ρ c)) $$ A2; iintro A2
  iapply (load_slot c (sMem 10) rfl) $$ S10; iintro S10
  -- part 16
  rw [k0_part16_eq_skeleton]; unfold k0_part16_skel
  simp only [Prog.lift, Prog.bind_op, Prog.bind_ret, Prog.pure_eq_ret]
  iapply (store_slot c (sMem 10) rfl (val m ρ 10 c) (pay30_eq m ρ c)) $$ S10; iintro S10
  iapply (send_step m ρ K c 10 (dev13_eq c) rfl rfl rfl rfl 10 11 rfl rfl) $$ HC S10 D10 X10 HO; iintro ⟨S10, HO⟩
  iapply (copy_step m ρ K c 1 (keepB 2 c) rfl (T2 m ρ 2 c) rfl (acc_slice (off11_eq1 c)) (out_slice (off11_eq1 c)) rfl) $$ HC A2 U2 C1; iintro C1
  -- part 17
  rw [k0_part17_eq_skeleton]; unfold k0_part17_skel
  simp only [Prog.lift, Prog.bind_op, Prog.bind_ret, Prog.pure_eq_ret]
  iapply (recv_step m ρ K c 7 rfl (t := 11) (by decide) (dst := rMem 7) (rMem_credit 7)) $$ HC R7 HO; iintro ⟨D7, R7, HO⟩
  iapply (load_acc c (keepB 3 c) (off10_eq1 c)) $$ A3; iintro A3
  iapply (load_slot c (rMem 7) rfl) $$ D7; iintro D7
  iapply (load_acc c (keepB 3 c) (off10_eq1 c)) $$ A3; iintro A3
  iapply (store_acc c (keepB 3 c) (off10_eq1 c) (T2 m ρ 3 c) (pay32_eq m ρ c)) $$ A3; iintro A3
  iapply (load_slot c (sMem 11) rfl) $$ S11; iintro S11
  iapply (store_slot c (sMem 11) rfl (val m ρ 11 c) (pay33_eq m ρ c)) $$ S11; iintro S11
  iapply (send_step m ρ K c 11 (dev14_eq c) rfl rfl rfl rfl 11 12 rfl rfl) $$ HC S11 D11 X11 HO; iintro ⟨S11, HO⟩
  -- part 18
  rw [k0_part18_eq_skeleton]; unfold k0_part18_skel
  simp only [Prog.lift, Prog.bind_op, Prog.bind_ret, Prog.pure_eq_ret]
  iapply (copy_step m ρ K c 3 (keepB 3 c) rfl (T2 m ρ 3 c) rfl (acc_slice (off12_eq1 c)) (out_slice (off12_eq1 c)) rfl) $$ HC A3 U3 C3; iintro C3
  iapply (recv_step m ρ K c 8 rfl (t := 12) (by decide) (dst := rMem 8) (rMem_credit 8)) $$ HC R8 HO; iintro ⟨D8, R8, HO⟩
  iapply (load_slot c (rMem 8) rfl) $$ D8; iintro D8
  iapply (load_acc c (sendB 0 c) (off13_eq0 c)) $$ B0; iintro B0
  iapply (store_acc c (sendB 0 c) (off13_eq0 c) (R3 m ρ 0 c) (pay34_eq m ρ c)) $$ B0; iintro B0
  iapply (copy_step m ρ K c 4 (sendB 0 c) rfl (R3 m ρ 0 c) rfl (acc_slice (off14_eq0 c)) (out_slice (off14_eq0 c)) rfl) $$ HC B0 W0 C4; iintro C4
  -- part 19
  rw [k0_part19_eq_skeleton]; unfold k0_part19_skel
  simp only [Prog.lift, Prog.bind_op, Prog.bind_ret, Prog.pure_eq_ret]
  iapply (recv_step m ρ K c 9 rfl (t := 12) (by decide) (dst := rMem 9) (rMem_credit 9)) $$ HC R9 HO; iintro ⟨D9, R9, HO⟩
  iapply (load_slot c (rMem 9) rfl) $$ D9; iintro D9
  iapply (load_acc c (sendB 1 c) (off15_eq0 c)) $$ B1; iintro B1
  iapply (store_acc c (sendB 1 c) (off15_eq0 c) (R3 m ρ 1 c) (pay35_eq m ρ c)) $$ B1; iintro B1
  iapply (copy_step m ρ K c 6 (sendB 1 c) rfl (R3 m ρ 1 c) rfl (acc_slice (off16_eq0 c)) (out_slice (off16_eq0 c)) rfl) $$ HC B1 W1 C6; iintro C6
  -- part 20
  rw [k0_part20_eq_skeleton]; unfold k0_part20_skel
  simp only [Prog.lift, Prog.bind_op, Prog.bind_ret, Prog.pure_eq_ret]
  iapply (recv_step m ρ K c 10 rfl (t := 12) (by decide) (dst := rMem 10) (rMem_credit 10)) $$ HC R10 HO; iintro ⟨D10, R10, HO⟩
  iapply (load_slot c (rMem 10) rfl) $$ D10; iintro D10
  iapply (load_acc c (sendB 2 c) (off13_eq1 c)) $$ B2; iintro B2
  iapply (store_acc c (sendB 2 c) (off13_eq1 c) (R3 m ρ 2 c) (pay36_eq m ρ c)) $$ B2; iintro B2
  iapply (copy_step m ρ K c 5 (sendB 2 c) rfl (R3 m ρ 2 c) rfl (acc_slice (off14_eq1 c)) (out_slice (off14_eq1 c)) rfl) $$ HC B2 W2 C5; iintro C5
  iapply (recv_step m ρ K c 11 rfl (t := 12) (by decide) (dst := rMem 11) (rMem_credit 11)) $$ HC R11 HO; iintro ⟨D11, R11, HO⟩
  iapply (load_slot c (rMem 11) rfl) $$ D11; iintro D11
  -- part 21
  rw [k0_part21_eq_skeleton]; unfold k0_part21_skel
  simp only [Prog.lift, Prog.bind_op, Prog.bind_ret, Prog.pure_eq_ret]
  iapply (load_acc c (sendB 3 c) (off15_eq1 c)) $$ B3; iintro B3
  iapply (store_acc c (sendB 3 c) (off15_eq1 c) (R3 m ρ 3 c) (pay38_eq m ρ c)) $$ B3; iintro B3
  iapply (copy_step m ρ K c 7 (sendB 3 c) rfl (R3 m ρ 3 c) rfl (acc_slice (off16_eq1 c)) (out_slice (off16_eq1 c)) rfl) $$ HC B3 W3 C7; iintro C7
  iapply (sent_step m ρ K c 0 rfl (t := 12) (dst := sMem 0) (sMem_credit 0)) $$ HC S0 HO; iintro ⟨S0, X0, HO⟩
  iapply (sent_step m ρ K c 2 rfl (t := 12) (dst := sMem 2) (sMem_credit 2)) $$ HC S2 HO; iintro ⟨S2, X2, HO⟩
  -- part 22
  rw [k0_part22_eq_skeleton]; unfold k0_part22_skel
  simp only [Prog.lift, Prog.bind_op, Prog.bind_ret, Prog.pure_eq_ret]
  iapply (sent_step m ρ K c 1 rfl (t := 12) (dst := sMem 1) (sMem_credit 1)) $$ HC S1 HO; iintro ⟨S1, X1, HO⟩
  iapply (sent_step m ρ K c 3 rfl (t := 12) (dst := sMem 3) (sMem_credit 3)) $$ HC S3 HO; iintro ⟨S3, X3, HO⟩
  iapply (sent_step m ρ K c 4 rfl (t := 12) (dst := sMem 4) (sMem_credit 4)) $$ HC S4 HO; iintro ⟨S4, X4, HO⟩
  -- part 23
  rw [k0_part23_eq_skeleton]; unfold k0_part23_skel
  simp only [Prog.lift, Prog.bind_op, Prog.bind_ret, Prog.pure_eq_ret]
  iapply (sent_step m ρ K c 6 rfl (t := 12) (dst := sMem 6) (sMem_credit 6)) $$ HC S6 HO; iintro ⟨S6, X6, HO⟩
  iapply (sent_step m ρ K c 5 rfl (t := 12) (dst := sMem 5) (sMem_credit 5)) $$ HC S5 HO; iintro ⟨S5, X5, HO⟩
  iapply (sent_step m ρ K c 7 rfl (t := 12) (dst := sMem 7) (sMem_credit 7)) $$ HC S7 HO; iintro ⟨S7, X7, HO⟩
  -- part 24
  rw [k0_part24_eq_skeleton]; unfold k0_part24_skel
  simp only [Prog.lift, Prog.bind_op, Prog.bind_ret, Prog.pure_eq_ret]
  iapply (sent_step m ρ K c 8 rfl (t := 12) (dst := sMem 8) (sMem_credit 8)) $$ HC S8 HO; iintro ⟨S8, X8, HO⟩
  iapply (sent_step m ρ K c 10 rfl (t := 12) (dst := sMem 10) (sMem_credit 10)) $$ HC S10 HO; iintro ⟨S10, X10, HO⟩
  iapply (sent_step m ρ K c 9 rfl (t := 12) (dst := sMem 9) (sMem_credit 9)) $$ HC S9 HO; iintro ⟨S9, X9, HO⟩
  -- part 25
  rw [k0_part25_eq_skeleton]; unfold k0_part25_skel
  simp only [Prog.lift, Prog.bind_op, Prog.bind_ret, Prog.pure_eq_ret]
  iapply (sent_step m ρ K c 11 rfl (t := 12) (dst := sMem 11) (sMem_credit 11)) $$ HC S11 HO; iintro ⟨S11, X11, HO⟩
  iapply (copied_step m ρ K c 0 rfl (t := 12)) $$ HC C0 HO; iintro ⟨C0, U0, HO⟩
  iapply (copied_step m ρ K c 2 rfl (t := 12)) $$ HC C2 HO; iintro ⟨C2, U2, HO⟩
  iapply (copied_step m ρ K c 1 rfl (t := 12)) $$ HC C1 HO; iintro ⟨C1, U1, HO⟩
  iapply (copied_step m ρ K c 3 rfl (t := 12)) $$ HC C3 HO; iintro ⟨C3, U3, HO⟩
  -- the last waits
  iapply (copied_step m ρ K c 4 rfl (t := 12)) $$ HC C4 HO; iintro ⟨C4, U4, HO⟩
  iapply (copied_step m ρ K c 6 rfl (t := 12)) $$ HC C6 HO; iintro ⟨C6, U6, HO⟩
  iapply (copied_step m ρ K c 5 rfl (t := 12)) $$ HC C5 HO; iintro ⟨C5, U5, HO⟩
  iapply (copied_step m ρ K c 7 rfl (t := 12)) $$ HC C7 HO; iintro ⟨C7, U7, HO⟩
  iapply (run_ret c)
  iapply Hk
  rw [Orem_end]
  unfold bodyOut staged
  simp only [bigSep_fin8, bigSep_fin12]
  iframe ∗

end Cert.Work

end
-- ==== Proof.Bufs.lean ====
/- The buffers cut up and put together: a 1024×1024 buffer as its eight row blocks in the order they are written out,
   and the four-slot buffers of all three stages as the twelve slots of the transfers. -/
module

public import proofs.«01_k».proof.Proof.Body

@[expose] public section

noncomputable section

namespace Cert.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem blk_disj (r r' : Fin 8) (h : r ≠ r') : Disjoint (blkR r).set (blkR r').set := by
  refine Rect.unit_disjoint (s := S1024x1024) (0 : Fin 2) ?_
  have : r.val ≠ r'.val := fun e => h (Fin.ext e)
  show 128 * r.val + 128 ≤ 128 * r'.val ∨ 128 * r'.val + 128 ≤ 128 * r.val
  omega
theorem blk_cov : (Finset.univ : Finset (Fin 8)).biUnion (fun r => (blkR r).set) = Finset.univ := by
  refine Finset.eq_univ_iff_forall.mpr fun x => Finset.mem_biUnion.mpr ?_
  have h0 : (x (0 : Fin 2)).val < 1024 := (x (0 : Fin 2)).isLt
  have h1 : (x (1 : Fin 2)).val < 1024 := (x (1 : Fin 2)).isLt
  refine ⟨⟨(x (0 : Fin 2)).val / 128, by omega⟩, Finset.mem_univ _, Rect.mem_set_unit.mpr fun a => ?_⟩
  match a with
  | ⟨0, _⟩ =>
    show 128 * ((x (0 : Fin 2)).val / 128) ≤ (x (0 : Fin 2)).val ∧ (x (0 : Fin 2)).val < 128 * ((x (0 : Fin 2)).val / 128) + 128
    omega
  | ⟨1, _⟩ =>
    show 0 ≤ (x (1 : Fin 2)).val ∧ (x (1 : Fin 2)).val < 0 + 1024
    omega

/-- A slot of four as a rectangle, by its pair. -/
abbrev slotP (t : Fin 2 × Fin 2) : Rect S2x2x128x1024 := slotR t.1 t.2
theorem slot_disj (t t' : Fin 2 × Fin 2) (h : t ≠ t') : Disjoint (slotP t).set (slotP t').set := by
  by_cases h0 : t.1 = t'.1
  · have : t.2.val ≠ t'.2.val := fun e => h (Prod.ext h0 (Fin.ext e))
    refine Rect.unit_disjoint (s := S2x2x128x1024) (1 : Fin 4) ?_
    show t.2.val + 1 ≤ t'.2.val ∨ t'.2.val + 1 ≤ t.2.val
    omega
  · have : t.1.val ≠ t'.1.val := fun e => h0 (Fin.ext e)
    refine Rect.unit_disjoint (s := S2x2x128x1024) (0 : Fin 4) ?_
    show t.1.val + 1 ≤ t'.1.val ∨ t'.1.val + 1 ≤ t.1.val
    omega
theorem slot_cov : (Finset.univ : Finset (Fin 2 × Fin 2)).biUnion (fun t => (slotP t).set) = Finset.univ := by
  refine Finset.eq_univ_iff_forall.mpr fun x => Finset.mem_biUnion.mpr ?_
  refine ⟨(x (0 : Fin 4), x (1 : Fin 4)), Finset.mem_univ _, Rect.mem_set_unit.mpr fun a => ?_⟩
  match a with
  | ⟨0, _⟩ => exact ⟨le_rfl, Nat.lt_succ_self _⟩
  | ⟨1, _⟩ => exact ⟨le_rfl, Nat.lt_succ_self _⟩
  | ⟨2, _⟩ => exact ⟨Nat.zero_le _, by show (x (2 : Fin 4)).val < 0 + 128; have : (x (2 : Fin 4)).val < 128 := (x (2 : Fin 4)).isLt; omega⟩
  | ⟨3, _⟩ => exact ⟨Nat.zero_le _, by show (x (3 : Fin 4)).val < 0 + 1024; have : (x (3 : Fin 4)).val < 1024 := (x (3 : Fin 4)).isLt; omega⟩

section Blocks

variable {sp : Space} {e : EltTy} (c : Dev nD) (M : Memref sig .tc sp S1024x1024 e)

/-- A buffer at some contents is its row blocks, each at some contents. -/
theorem any_blocks : anyOf (F := F) c M ⊢ (bigSep Finset.univ fun i : Fin 8 => anyOf (F := F) c (M.slice (blkR (blkOf i c)) (fun _ => rfl)) : sProp 𝕄) := by
  iintro ⟨%X, H⟩
  have h : (owns (c : Thread nD τ) M fullShare X : sProp 𝕄) ⊢ bigSep Finset.univ fun i : Fin 8 => anyOf (F := F) c (M.slice (blkR (blkOf i c)) (fun _ => rfl)) := by
    refine (owns_rects (c : Thread nD τ) M fullShare blkR (fun _ _ => rfl) blk_disj blk_cov X).trans ?_
    rw [bigSep_univ_equiv (blkE c) (fun r : Fin 8 => (owns (c : Thread nD τ) (M.slice (blkR r) (fun _ => rfl)) fullShare (fun j => X ((blkR r).emb j)) : sProp 𝕄))]
    refine bigSep_mono fun i _ => ?_
    show owns (c : Thread nD τ) (M.slice (blkR (blkOf i c)) (fun _ => rfl)) fullShare (fun j => X ((blkR (blkOf i c)).emb j)) ⊢ _
    iintro H; iexists _; iexact H
  iapply h; iexact H

/-- Row blocks put together, in the order they are written out. -/
def glueB {β : Type} (c : Dev nD) (Z : Fin 8 → S128x1024.Idx → β) : S1024x1024.Idx → β := Rect.glue blkR blk_cov fun r => Z (copyOf r c)
theorem glueB_emb {β : Type} (Z : Fin 8 → S128x1024.Idx → β) (r : Fin 8) (j : S128x1024.Idx) : glueB c Z ((blkR r).emb j) = Z (copyOf r c) j :=
  Rect.glue_emb blkR blk_cov blk_disj _ r j

/-- The row blocks at known contents are the buffer at those put together. -/
theorem blocks_glue (Z : Fin 8 → S128x1024.Idx → Elt F e) :
    (bigSep Finset.univ fun i : Fin 8 => owns (c : Thread nD τ) (M.slice (blkR (blkOf i c)) (fun _ => rfl)) fullShare (Z i) : sProp 𝕄)
      ⊢ owns (c : Thread nD τ) M fullShare (glueB c Z) := by
  refine BI.Entails.trans ?_ (owns_of_rects (c : Thread nD τ) M fullShare blkR (fun _ _ => rfl) blk_disj blk_cov (glueB c Z))
  rw [bigSep_univ_equiv (blkE c) (fun r : Fin 8 => (owns (c : Thread nD τ) (M.slice (blkR r) (fun _ => rfl)) fullShare (fun j => glueB c Z ((blkR r).emb j)) : sProp 𝕄))]
  refine bigSep_mono fun i _ => ?_
  show owns (c : Thread nD τ) (M.slice (blkR (blkOf i c)) (fun _ => rfl)) fullShare (Z i) ⊢ _
  refine Entails.of_eq ?_
  show _ = owns (c : Thread nD τ) (M.slice (blkR (blkOf i c)) (fun _ => rfl)) fullShare (fun j => glueB c Z ((blkR (blkOf i c)).emb j))
  congr 1
  funext j
  rw [glueB_emb, copyOf_blkOf]

end Blocks

section Slots

variable (c : Dev nD)

/-- A buffer of four slots at some contents is its slots, each at some contents, -/
theorem any_slots (M : Memref sig .tc .vmem S2x2x128x1024 .bf16) :
    anyOf (F := F) c M ⊢ (bigSep Finset.univ fun t : Fin 2 × Fin 2 => anyOf (F := F) c (slotM M t.1 t.2) : sProp 𝕄) := by
  iintro ⟨%X, H⟩
  have h : (owns (c : Thread nD τ) M fullShare X : sProp 𝕄) ⊢ bigSep Finset.univ fun t : Fin 2 × Fin 2 => anyOf (F := F) c (slotM M t.1 t.2) := by
    refine (owns_rects (c : Thread nD τ) M fullShare slotP (fun _ _ => rfl) slot_disj slot_cov X).trans (bigSep_mono fun t _ => ?_)
    show owns (c : Thread nD τ) (M.slice (slotP t) (fun _ => rfl)) fullShare (fun j => X ((slotP t).emb j)) ⊢ _
    iintro H
    iexists (shapeCast S128x1024 (fun j => X ((slotP t).emb j)) shapeCasts_S1x1x128x1024_S128x1024)
    rw [owns_squeeze c _ _ shapeCasts_S1x1x128x1024_S128x1024 shapeCasts_S128x1024_S1x1x128x1024, shapeCast_shapeCast]
    iexact H
  iapply h; iexact H

/-- and back. -/
theorem slots_any (M : Memref sig .tc .vmem S2x2x128x1024 .bf16) :
    (bigSep Finset.univ fun t : Fin 2 × Fin 2 => anyOf (F := F) c (slotM M t.1 t.2) : sProp 𝕄) ⊢ anyOf (F := F) c M := by
  have hne : ∀ _ : Fin 2 × Fin 2, Nonempty (S128x1024.Idx → Elt F .bf16) := fun _ => ⟨fun _ => Classical.choice (Elt.nonempty F .bf16)⟩
  refine (@BI.bigSep_exists_pi _ _ _ _ (fun _ : Fin 2 × Fin 2 => S128x1024.Idx → Elt F .bf16) hne Finset.univ
    (fun t X => (owns (c : Thread nD τ) (slotM M t.1 t.2) fullShare X : sProp 𝕄))).trans ?_
  iintro ⟨%Xs, H⟩
  iexists (Rect.glue slotP slot_cov fun t => unsq (Xs t))
  have h : (bigSep Finset.univ fun t : Fin 2 × Fin 2 => owns (c : Thread nD τ) (slotM M t.1 t.2) fullShare (Xs t) : sProp 𝕄)
      ⊢ owns (c : Thread nD τ) M fullShare (Rect.glue slotP slot_cov fun t => unsq (Xs t)) := by
    refine BI.Entails.trans (bigSep_mono fun t _ => ?_)
      (owns_of_rects (c : Thread nD τ) M fullShare slotP (fun _ _ => rfl) slot_disj slot_cov (Rect.glue slotP slot_cov fun t => unsq (Xs t)))
    show owns (c : Thread nD τ) (slotM M t.1 t.2) fullShare (Xs t) ⊢ _
    refine Entails.of_eq ?_
    rw [owns_squeeze c _ _ shapeCasts_S1x1x128x1024_S128x1024 shapeCasts_S128x1024_S1x1x128x1024]
    congr 1
    funext j
    exact (Rect.glue_emb slotP slot_cov slot_disj (fun t => unsq (Xs t)) t j).symm
  iapply h; iexact H

/-- Stage, half and piece together number the transfers. -/
def kE : Fin 12 ≃ Fin 3 × (Fin 2 × Fin 2) where
  toFun k := (kg k, (kh k, kp k))
  invFun t := ⟨4 * t.1.val + 2 * t.2.2.val + t.2.1.val, by omega⟩
  left_inv k := Fin.ext (by unfold kg kh kp; dsimp only; omega)
  right_inv t := by
    obtain ⟨g, h, p⟩ := t
    unfold kg kh kp
    refine Prod.ext (Fin.ext ?_) (Prod.ext (Fin.ext ?_) (Fin.ext ?_)) <;> dsimp only <;> omega

/-- The slots of all twelve transfers are those of three buffers. -/
theorem slots_regroup (B : Fin 3 → Memref sig .tc .vmem S2x2x128x1024 .bf16) :
    (bigSep Finset.univ fun k : Fin 12 => anyOf (F := F) c (slotM (B (kg k)) (kh k) (kp k)) : sProp 𝕄)
      = bigSep Finset.univ fun g : Fin 3 => bigSep Finset.univ fun t : Fin 2 × Fin 2 => anyOf (F := F) c (slotM (B g) t.1 t.2) := by
  rw [← bigSep_univ_prod (fun x : Fin 3 × (Fin 2 × Fin 2) => anyOf (F := F) c (slotM (B x.1) x.2.1 x.2.2)),
    bigSep_univ_equiv kE (fun x : Fin 3 × (Fin 2 × Fin 2) => anyOf (F := F) c (slotM (B x.1) x.2.1 x.2.2))]
  rfl

theorem bufs_slots (B : Fin 3 → Memref sig .tc .vmem S2x2x128x1024 .bf16) :
    (bigSep Finset.univ fun g : Fin 3 => anyOf (F := F) c (B g) : sProp 𝕄)
      ⊢ bigSep Finset.univ fun k : Fin 12 => anyOf (F := F) c (slotM (B (kg k)) (kh k) (kp k)) := by
  rw [slots_regroup]; exact bigSep_mono fun g _ => any_slots c (B g)
theorem slots_bufs (B : Fin 3 → Memref sig .tc .vmem S2x2x128x1024 .bf16) :
    (bigSep Finset.univ fun k : Fin 12 => anyOf (F := F) c (slotM (B (kg k)) (kh k) (kp k)) : sProp 𝕄)
      ⊢ bigSep Finset.univ fun g : Fin 3 => anyOf (F := F) c (B g) := by
  rw [slots_regroup]; exact bigSep_mono fun g _ => slots_any c (B g)

end Slots

/-! ## The scratch buffers whole -/

/-- A scratch buffer at some contents. -/
abbrev anyBuf (c : Dev nD) (b : Ref sig .tc) : sProp 𝕄 := iprop(∃ f : Buf (Elt F) ((c : Thread nD τ).loc b), ((c : Thread nD τ).loc b) ↦{fullShare} f)

theorem anyOf_whole (c : Dev nD) (b : Ref sig .tc) : (anyOf (F := F) c (Memref.whole b) : sProp 𝕄) = anyBuf (F := F) c b :=
  Memref.IsWhole.exists_owns_eq (c := (c : Thread nD τ)) (Memref.isWhole_whole b) fullShare

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem sBufs_eq (c : Dev nD) : (bigSep Finset.univ fun g : Fin 3 => anyOf (F := F) c (sBuf g) : sProp 𝕄)
    = iprop(anyBuf (F := F) c cc0_scratch1 ∗ anyBuf (F := F) c cc0_scratch2 ∗ anyBuf (F := F) c cc0_scratch3) := by
  rw [bigSep_fin3, ← anyOf_whole, ← anyOf_whole, ← anyOf_whole]; rfl
theorem rBufs_eq (c : Dev nD) : (bigSep Finset.univ fun g : Fin 3 => anyOf (F := F) c (rBuf g) : sProp 𝕄)
    = iprop(anyBuf (F := F) c cc0_scratch4 ∗ anyBuf (F := F) c cc0_scratch5 ∗ anyBuf (F := F) c cc0_scratch6) := by
  rw [bigSep_fin3, ← anyOf_whole, ← anyOf_whole, ← anyOf_whole]; rfl

/-- The scratch buffers, grouped by use: accumulator, outgoing, landing. -/
theorem scratch_eq (c : Dev nD) :
    (Pipeline.scopedRest (Ix := Unit) (Name := ℕ) (U := UU) (Lvl := ℕ) (Val := Elt F) spec0 c : sProp 𝕄)
      ⊣⊢ iprop(anyBuf (F := F) c cc0_scratch0 ∗ (bigSep Finset.univ fun g : Fin 3 => anyOf (F := F) c (sBuf g))
          ∗ (bigSep Finset.univ fun g : Fin 3 => anyOf (F := F) c (rBuf g))) := by
  rw [scopedRest0_eq, sBufs_eq, rBufs_eq]
  constructor
  · iintro ⟨H0, H1, H2, H3, H4⟩
    isplitl [H0]; · iexact H0
    isplitl [H1 H2 H3]
    · isplitl [H1]; · iexact H1
      isplitl [H2] <;> iassumption
    iexact H4
  · iintro ⟨H0, ⟨H1, H2, H3⟩, H4⟩
    isplitl [H0]; · iexact H0
    isplitl [H1]; · iexact H1
    isplitl [H2]; · iexact H2
    isplitl [H3]; · iexact H3
    iexact H4

end Cert.Work

end
-- ==== Proof.Fund.lean ====
/- What the launch deals the devices: every cell's state and invariant, the duty tokens moved to the devices that pay
   them, and the credit each device starts with. -/
module

public import proofs.«01_k».proof.Proof.Bufs

@[expose] public section

noncomputable section

namespace Cert.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores: all but the barrier's. -/
abbrev osem (k : Fin 12 ⊕ (Fin 12 ⊕ Fin 8)) : SemLoc sig := csem (.inr k)

theorem csem_injective : Function.Injective csem := by decide +kernel
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- One token per cell, and the barrier's second. -/
abbrev tokOf (cj : Dev nD × (CI ⊕ Unit)) : GSem nD τ sig × ℕ × Bool := match cj.2 with
  | .inl k => (kcell (cj.1, k), 0, false)
  | .inr _ => (barCell cj.1, 0, true)
theorem tokOf_injective : Function.Injective tokOf := by
  rintro ⟨c, j⟩ ⟨c', j'⟩ h
  have hb := congrArg (fun x : GSem nD τ sig × ℕ × Bool => x.2.2) h
  have hc := congrArg (fun x : GSem nD τ sig × ℕ × Bool => x.1) h
  rcases j with k | u <;> rcases j' with k' | u'
  · have := Prod.mk.inj (kcell_injective (a₁ := (c, k)) (a₂ := (c', k')) hc)
    rw [this.1, this.2]
  · cases hb
  · cases hb
  · have : c = c' := congrArg (fun g : GSem nD τ sig => g.1.1) hc
    rw [this]
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The duty tokens of a device's own cells. -/
def toks (c : Dev nD) : sProp 𝕄 :=
  iprop((bigSep Finset.univ fun k : CI => dutyTok ER (kcell (c, k)) 0 false) ∗ dutyTok ER (barCell c) 0 true)

/-- What the launch deals a device. -/
def G (c : Dev nD) : sProp 𝕄 :=
  iprop((bigSep Finset.univ fun k : CI => roundState ER (rd m ρ) (kcell (c, k)) 0)
    ∗ (bigSep Finset.univ fun k : CI => atPos ER (kcell (c, k)) 0 ∅ 0) ∗ (bigSep Finset.univ fun k : CI => reached ER (kcell (c, k)) 0) ∗ toks (F := F) c)

/-- The tokens of the duties a device pays. -/
def payToks (c : Dev nD) : sProp 𝕄 :=
  iprop(dutyTok ER (barCell (pa c)) 0 false ∗ dutyTok ER (barCell (pb c)) 0 true
    ∗ (bigSep Finset.univ fun k : Fin 12 => dutyTok ER (sendCell c k) 0 false)
    ∗ (bigSep Finset.univ fun k : Fin 12 => dutyTok ER (recvCell (peer k c) k) 0 false)
    ∗ (bigSep Finset.univ fun i : Fin 8 => dutyTok ER (copyCell c i) 0 false))
/-- What is a device's alone: its places at its cells, and those tokens. -/
def linear (c : Dev nD) : sProp 𝕄 := iprop((bigSep Finset.univ fun k : CI => atPos ER (kcell (c, k)) 0 ∅ 0) ∗ payToks (F := F) c)
/-- What every device starts with once the cells are set up. -/
def G' (c : Dev nD) : sProp 𝕄 := iprop(∃ K, records m ρ K ∗ linear (F := F) c)

/-- A family over the cells, by kind. -/
theorem bigSep_CI (Φ : CI → sProp 𝕄) : bigSep Finset.univ Φ
    = iprop(Φ iBar ∗ (bigSep Finset.univ fun k : Fin 12 => Φ (iSend k)) ∗ (bigSep Finset.univ fun k : Fin 12 => Φ (iRecv k))
        ∗ (bigSep Finset.univ fun i : Fin 8 => Φ (iCopy i))) := by
  rw [bigSep_univ_sum, bigSep_univ_of_subsingleton (), bigSep_univ_sum, bigSep_univ_sum]
  rfl

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum, bigSep_univ_of_subsingleton (I := Unit) ()]; rfl
  iintro HX
  imod (Rounds.fund ER (rd m ρ) allCells allToks) $$ HX with ⟨Hst, Hr, Hat, Htok⟩
  imodintro
  ihave Hst := (Entails.of_eq (hX fun g => roundState ER (rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  simp only [bigSep_sep']
  isplitl [Hst]; · iexact Hst
  isplitl [Hat]; · iexact Hat
  isplitl [Hr] <;> iassumption

/-! ## Semaphores at zero become cells -/

/-- The barrier's is the only semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop((bigSep Finset.univ fun k : Fin 12 => semVal (sendCell c k) 0) ∗ (bigSep Finset.univ fun k : Fin 12 => semVal (recvCell c k) 0)
        ∗ (bigSep Finset.univ fun i : Fin 8 => semVal (copyCell c i) 0)) := by
  unfold Pipeline.ownSems0
  rw [bigSep_univ_sum, bigSep_univ_sum]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨Ho, Hb⟩
  isplitl [Hb]; · iexact Hb
  iexact Ho

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (rd m ρ) κ (kcell (c, k))))
          ∗ (bigSep Finset.univ fun k : CI => atPos ER (kcell (c, k)) 0 ∅ 0) ∗ (bigSep Finset.univ fun k : CI => reached ER (kcell (c, k)) 0) ∗ toks (F := F) c) := by
  have hall : iprop((bigSep Finset.univ fun k : CI => semVal (kcell (c, k)) 0) ∗ bigSep Finset.univ fun k : CI => roundState ER (rd m ρ) (kcell (c, k)) 0)
      ⊢ (|={Set.univ}=> bigSep Finset.univ fun k : CI => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  unfold G
  iintro ⟨Ho, Hu, Hst, Hrest⟩
  ihave Hv := (sems0_eq (F := F) c) $$ [Ho Hu]
  · isplitl [Ho] <;> iassumption
  imod hall $$ [Hv Hst] with Hinv
  · isplitl [Hv] <;> iassumption
  imodintro
  isplitl [Hinv] <;> iassumption

/-- Every token goes to the device that pays its duty: a barrier's to its two partners, a receiving cell's to the sender. -/
theorem toks_dealt : (bigSep Finset.univ fun c : Dev nD => (toks c : sProp 𝕄)) ⊢ bigSep Finset.univ fun c : Dev nD => payToks (F := F) c := by
  have hr : (bigSep Finset.univ fun c : Dev nD => bigSep Finset.univ fun k : Fin 12 => (dutyTok ER (recvCell c k) 0 false : sProp 𝕄))
      = bigSep Finset.univ fun c : Dev nD => bigSep Finset.univ fun k : Fin 12 => dutyTok ER (recvCell (peer k c) k) 0 false := by
    rw [BI.bigSep_univ_comm, BI.bigSep_univ_comm (fun (c : Dev nD) (k : Fin 12) => (dutyTok ER (recvCell (peer k c) k) 0 false : sProp 𝕄))]
    exact bigSep_congr fun k _ => bigSep_univ_equiv (peerE k) (fun c : Dev nD => (dutyTok ER (recvCell c k) 0 false : sProp 𝕄))
  unfold toks payToks
  simp only [bigSep_CI, bigSep_sep']
  rw [bigSep_univ_equiv paE (fun c : Dev nD => (dutyTok ER (barCell c) 0 false : sProp 𝕄)),
    bigSep_univ_equiv pbE (fun c : Dev nD => (dutyTok ER (barCell c) 0 true : sProp 𝕄)), ← hr]
  iintro ⟨⟨H1, H2, H3, H4⟩, H5⟩
  isplitl [H1]; · iexact H1
  isplitl [H5]; · iexact H5
  isplitl [H2]; · iexact H2
  isplitl [H3]; · iexact H3
  iexact H4

/-- What holds once and for all, beside each member of a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (rd m ρ) κ (kcell (c, k))))
          ∗ (bigSep Finset.univ fun k : CI => atPos ER (kcell (c, k)) 0 ∅ 0) ∗ (bigSep Finset.univ fun k : CI => reached ER (kcell (c, k)) 0) ∗ toks (F := F) c) : sProp 𝕄)
      ⊢ bigSep Finset.univ (G' m ρ) := by
  simp only [bigSep_sep']
  rw [← bigSep_univ_prod (fun ck : Dev nD × CI => iprop(∃ κ : ℕ, cellInv ER (rd m ρ) κ (kcell ck))),
    ← bigSep_univ_prod (fun ck : Dev nD × CI => (reached ER (kcell ck) 0 : sProp 𝕄))]
  iintro ⟨HI, Hat, #HR, Htok⟩
  ihave HK := (BI.bigSep_exists_pi Finset.univ (fun (ck : Dev nD × CI) (κ : ℕ) => (cellInv ER (rd m ρ) κ (kcell ck) : sProp 𝕄))) $$ HI
  icases HK with ⟨%K, #HI⟩
  ihave Htk := (toks_dealt (F := F)) $$ Htok
  have hG (c : Dev nD) : iprop(records m ρ K ∗ linear (F := F) c) ⊢ G' m ρ c := by
    unfold G'; iintro H; iexists K; iexact H
  iapply (bigSep_beside (R := records m ρ K) (Φ := linear (F := F)) fun c _ => hG c)
  isplitr
  · unfold records; isplitl; · iexact HI
    iexact HR
  · unfold linear
    simp only [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem bar_inj {a b : Dev nD} (h : barCell a = barCell b) : a = b := congrArg (fun g : GSem nD τ sig => g.1.1) h
theorem recv_inj {a b : Dev nD} {k k' : Fin 12} (h : recvCell a k = recvCell b k') : a = b ∧ k = k' := by
  have := Prod.mk.inj (kcell_injective (a₁ := (a, iRecv k)) (a₂ := (b, iRecv k')) h)
  exact ⟨this.1, by simpa using this.2⟩
theorem bar_ne_recv (a b : Dev nD) (k : Fin 12) : barCell a ≠ recvCell b k := fun h => by cases congrArg Prod.snd h

/-- What device `d` owes device `c`'s barrier: a unit from each of `c`'s two partners. -/
theorem owed_bar (d c : Dev nD) : O₀ d (barCell c) () = (if d = pb c then 1 else 0) + (if d = pa c then 1 else 0) := by
  have h0 : Orem d 0 (barCell c) () = 0 := by
    by_contra h
    obtain ⟨k, -, hk⟩ := Orem_pos (Nat.pos_of_ne_zero h)
    exact bar_ne_recv _ _ _ hk
  unfold O₀ O₁
  rw [Pi.add_apply, Finsupp.add_apply, Pi.add_apply, Finsupp.add_apply, h0, Nat.zero_add, tallyAt_apply, tallyAt_apply]
  congr 1
  · refine if_congr ⟨fun h => ?_, fun h => ?_⟩ rfl rfl
    · rw [bar_inj h.1, pb_pb]
    · rw [h, pb_pb]; exact ⟨rfl, rfl⟩
  · refine if_congr ⟨fun h => ?_, fun h => ?_⟩ rfl rfl
    · rw [bar_inj h.1, pa_pa]
    · rw [h, pa_pa]; exact ⟨rfl, rfl⟩

theorem owed_recv (d c : Dev nD) (k : Fin 12) : O₀ d (recvCell c k) () = if d = peer k c then dN else 0 := by
  have hb (p : Dev nD) : (tallyAt (barCell p) () 1 : CellTallies nD τ sig Unit) (recvCell c k) () = 0 := by
    rw [tallyAt_apply]; exact if_neg fun h => bar_ne_recv _ _ _ h.1.symm
  unfold O₀ O₁
  rw [Pi.add_apply, Finsupp.add_apply, Pi.add_apply, Finsupp.add_apply, hb, hb, Nat.add_zero]
  unfold Orem
  rw [Finset.sum_apply, Finsupp.finset_sum_apply, Finset.sum_eq_single k]
  · rw [tallyAt_apply]
    refine if_congr ⟨fun h => ?_, fun h => ?_⟩ rfl rfl
    · rw [(recv_inj h.1).1, peer_peer]
    · rw [h, peer_peer]; exact ⟨rfl, rfl⟩
  · intro k' _ hk
    rw [tallyAt_apply]; exact if_neg fun h => hk (recv_inj h.1).2.symm
  · intro h; exact absurd (show k ∈ (Finset.univ : Finset (Fin 12)).filter (fun k => 0 ≤ k.val) from Finset.mem_filter.mpr ⟨Finset.mem_univ _, Nat.zero_le _⟩) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pb c) fun _ => 1, Finset.sum_ite_eq' Finset.univ (pa c) fun _ => 1, if_pos (Finset.mem_univ _), if_pos (Finset.mem_univ _)]
theorem launch_recv (c : Dev nD) (k : Fin 12) :
    tallyOn (recvCell c k) (launchCredit (Pipeline.owing O₀) 0 (recvCell c k)) = (tallyAt (recvCell c k) () dN : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer k c) fun _ => dN,
    if_pos (Finset.mem_univ _)]

/-- A device starts with its barrier's two units and every arriving transfer's credit. -/
theorem creds (c : Dev nD) : (Pipeline.launchCred O₀ c : sProp 𝕄)
    ⊢ iprop(cred (tallyAt (barCell c) () 2) ∗ bigSep Finset.univ fun k : Fin 12 => cred (tallyAt (recvCell c k) () dN)) := by
  have hinj : Function.Injective (fun k : Fin 12 => csem (iRecv k)) := fun k k' h => by simpa using csem_injective h
  unfold Pipeline.launchCred
  rw [bigSep_univ_at _ (SemLoc.reg barS), launch_bar]
  refine sep_mono_right ?_
  have hs : (Finset.univ.map ⟨fun k : Fin 12 => csem (iRecv k), hinj⟩) ⊆ Finset.univ.erase (SemLoc.reg barS : SemLoc sig) := by
    intro s hs
    obtain ⟨k, -, rfl⟩ := Finset.mem_map.mp hs
    exact Finset.mem_erase.mpr ⟨fun h => (by cases h), Finset.mem_univ _⟩
  refine (bigSep_subset hs).trans ?_
  rw [bigSep_map]
  refine bigSep_mono fun k _ => ?_
  rw [← launch_recv]
  exact BI.Entails.refl _

end Cert.Work

end
-- ==== Proof.Launch.lean ====
/- The kernel launched on all four devices: its body's obligation, what goes in and comes out of the launch, and the run
   of the whole program from any memory. -/
module

public import proofs.«01_k».proof.Proof.Fund
public import Idealize.ShloMosaic.Lib.Pipeline.CollectiveSegs

@[expose] public section

set_option maxRecDepth 8000

noncomputable section

namespace Cert.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result on device `c`: its eight row blocks put together. -/
def outAt (c : Dev nD) : (main_v1 : Ref sig .tc).ty.Contents (Elt F) := glueB (β := Elt F .f32) c fun i => fin m ρ i c

/-- What device `c` starts from. -/
def start (c : Dev nD) : sProp 𝕄 :=
  iprop(G' m ρ c ∗ (cred (tallyAt (barCell c) () 2) ∗ bigSep Finset.univ fun k : Fin 12 => cred (tallyAt (recvCell c k) () dN))
    ∗ anyBuf (F := F) c main_v1 ∗ levAts L lv)
/-- Before the body: that and the scratch buffers. -/
def Φ₀ (c : Dev nD) : sProp 𝕄 :=
  iprop(start m ρ c ∗ Pipeline.scopedRest (Ix := Unit) (Name := ℕ) (U := UU) (Lvl := ℕ) (Val := Elt F) spec0 c)
/-- What outlives the kernel: the barrier's semaphore at zero, and the result. -/
def left (c : Dev nD) : sProp 𝕄 :=
  iprop(unscopedSems0 c ∗ (((c : Thread nD τ).loc main_v1) ↦{fullShare} outAt m ρ c))
/-- After it: that, the kernel's own semaphores at zero, and the scratch buffers. -/
def Φ₁ (c : Dev nD) : sProp 𝕄 :=
  iprop(left m ρ c ∗ Pipeline.ownSems0 osem c ∗ Pipeline.scopedRest (Ix := Unit) (Name := ℕ) (U := UU) (Lvl := ℕ) (Val := Elt F) spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m ρ c
    | ⟨1, _⟩ => xB m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## The body's two ends -/

/-- What the body starts from, out of what the device starts from. -/
theorem body_in (c : Dev nD) :
    iprop(linear (F := F) c ∗ (cred (tallyAt (barCell c) () 2) ∗ bigSep Finset.univ fun k : Fin 12 => cred (tallyAt (recvCell c k) () dN))
        ∗ anyBuf (F := F) c main_v1 ∗ Pipeline.scopedRest (Ix := Unit) (Name := ℕ) (U := UU) (Lvl := ℕ) (Val := Elt F) spec0 c
        ∗ staged m ρ c ∗ OW (F := F) c (O₀ c))
      ⊢ bodyIn m ρ c := by
  have hacc : anyBuf (F := F) c cc0_scratch0 ⊢ (bigSep Finset.univ fun i : Fin 8 => anyOf (F := F) c (accMem (blkOf i c)) : sProp 𝕄) := by
    rw [← anyOf_whole]; exact any_blocks c (Memref.whole cc0_scratch0)
  have hout : anyBuf (F := F) c main_v1 ⊢ (bigSep Finset.univ fun i : Fin 8 => anyOf (F := F) c (outMem (blkOf i c)) : sProp 𝕄) := by
    rw [← anyOf_whole]; exact any_blocks c (Memref.whole main_v1)
  have hs : (bigSep Finset.univ fun g : Fin 3 => anyOf (F := F) c (sBuf g) : sProp 𝕄) ⊢ bigSep Finset.univ fun k : Fin 12 => anyOf (F := F) c (sMem k) :=
    bufs_slots c sBuf
  have hr : (bigSep Finset.univ fun g : Fin 3 => anyOf (F := F) c (rBuf g) : sProp 𝕄) ⊢ iprop(lands (F := F) c false ∗ lands (F := F) c true) :=
    (bufs_slots c rBuf).trans (lands_split c)
  unfold linear payToks bodyIn TX RX TC
  rw [bigSep_CI]
  simp only [bigSep_sep']
  iintro ⟨⟨⟨Hab, Has, Har, Hac⟩, Htf, Htt, Hts, Htr, Htc⟩, ⟨Hcb, Hcr⟩, Hv, Hsc, Hst, HO⟩
  ihave Hsc := (scratch_eq (F := F) c).1 $$ Hsc
  icases Hsc with ⟨H0, HS, HR⟩
  ihave H0 := hacc $$ H0
  ihave Hv := hout $$ Hv
  ihave HS := hs $$ HS
  ihave HR := hr $$ HR
  icases HR with ⟨Hf, Ht⟩
  iframe ∗

/-- What the body leaves, as the launch takes it back. -/
theorem body_out (c : Dev nD) : bodyOut m ρ c ⊢ iprop(Φ₁ m ρ c ∗ OW (F := F) c 0 ∗ staged m ρ c) := by
  have hv : (bigSep Finset.univ fun i : Fin 8 => owns (c : Thread nD τ) (outMem (blkOf i c)) fullShare (fin m ρ i c) : sProp 𝕄)
      ⊢ (((c : Thread nD τ).loc main_v1) ↦{fullShare} outAt m ρ c) := by
    rw [← owns_whole]; exact blocks_glue c (Memref.whole main_v1) (fun i => fin m ρ i c)
  have hacc : (bigSep Finset.univ fun i : Fin 8 => owns (c : Thread nD τ) (accMem (blkOf i c)) fullShare (fin m ρ i c) : sProp 𝕄)
      ⊢ anyBuf (F := F) c cc0_scratch0 := by
    rw [← anyOf_whole]
    iintro H
    iexists (glueB c fun i => fin m ρ i c)
    iapply (blocks_glue (F := F) c (Memref.whole cc0_scratch0) (fun i => fin m ρ i c))
    iexact H
  have hs : (bigSep Finset.univ fun k : Fin 12 => owns (c : Thread nD τ) (sMem k) fullShare (val m ρ k c) : sProp 𝕄)
      ⊢ bigSep Finset.univ fun g : Fin 3 => anyOf (F := F) c (sBuf g) := by
    refine BI.Entails.trans (bigSep_mono fun k _ => ?_) (slots_bufs c sBuf)
    show owns (c : Thread nD τ) (sMem k) fullShare (val m ρ k c) ⊢ anyOf (F := F) c (sMem k)
    iintro H; iexists _; iexact H
  have hr : (bigSep Finset.univ fun k : Fin 12 => owns (c : Thread nD τ) (rMem k) fullShare (val m ρ k (peer k c)) : sProp 𝕄)
      ⊢ bigSep Finset.univ fun g : Fin 3 => anyOf (F := F) c (rBuf g) := by
    refine BI.Entails.trans (bigSep_mono fun k _ => ?_) (slots_bufs c rBuf)
    show owns (c : Thread nD τ) (rMem k) fullShare (val m ρ k (peer k c)) ⊢ anyOf (F := F) c (rMem k)
    iintro H; iexists _; iexact H
  unfold bodyOut Φ₁ left copyPay
  rw [ownSems0_eq, unscopedSems0_eq]
  simp only [bigSep_sep']
  iintro ⟨Hst, HO, Hzb, ⟨HR, Hzr⟩, ⟨HS, Hzs⟩, ⟨Hv, H0⟩, Hzc⟩
  ihave H0 := hacc $$ H0
  ihave Hv := hv $$ Hv
  ihave HS := hs $$ HS
  ihave HR := hr $$ HR
  ihave Hsc := (scratch_eq (F := F) c).2 $$ [H0 HS HR]
  · isplitl [H0]; · iexact H0
    isplitl [HS] <;> iassumption
  iframe ∗

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg (F := F) c cc0_stg0_0 ((dats m ρ 0 c).before (0 : Fin 2) t0_0 d))
    ∗ (∃ d, stg (F := F) c cc0_stg1_0 ((dats m ρ 0 c).before (1 : Fin 2) t0_0 d)))
def bodyPost (c : Dev nD) : sProp 𝕄 :=
  iprop(Φ₁ m ρ c ∗ (dats m ρ 0 c).owesAt () t0_0.succ ∗ stg (F := F) c cc0_stg0_0 (xA m ρ c) ∗ stg (F := F) c cc0_stg1_0 (xB m ρ c))

theorem before_eq (c : Dev nD) (d₀ d₁) : (dats m ρ 0 c).before (0 : Fin 2) t0_0 d₀ = xA m ρ c ∧ (dats m ρ 0 c).before (1 : Fin 2) t0_0 d₁ = xB m ρ c :=
  ⟨by unfold Dat.before; rw [if_pos (fetch0_0 t0_0)]; rfl, by unfold Dat.before; rw [if_pos (fetch0_1 t0_0)]; rfl⟩

/-- The body from the launch's side. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ run c (cc0_body (F := F) (Memref.whole cc0_stg0_0) (Memref.isWhole_whole _) (Memref.whole cc0_stg1_0) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) cc0_scratch7 cc0_scratch8 cc0_scratch9) (fun _ => bodyPost m ρ c)
  unfold bodyPre Φ₀ start G'
  iintro ⟨⟨⟨⟨%K, #HR, Hl⟩, Hcr, Hv, #Hlev⟩, Hsc⟩, HO, ⟨%d₀, %f₀, %h₀, Ha⟩, ⟨%d₁, %f₁, %h₁, Hb⟩⟩
  have e₀ : f₀ = xA m ρ c := h₀.trans (before_eq m ρ c d₀ d₁).1
  have e₁ : f₁ = xB m ρ c := h₁.trans (before_eq m ρ c d₀ d₁).2
  subst e₀ e₁
  iapply (body_run m ρ K c fun _ => bodyPost m ρ c)
  isplitr
  · unfold ctx; isplitr; · iexact HR
    iexact Hlev
  isplitl
  · iapply (body_in m ρ c)
    unfold Dat.owesAt Pipeline.owesWithin
    icases HO with ⟨%W, -, HO⟩
    isplitl [Hl]; · iexact Hl
    isplitl [Hcr]; · iexact Hcr
    isplitl [Hv]; · iexact Hv
    isplitl [Hsc]; · iexact Hsc
    isplitl [Ha Hb]
    · unfold staged; isplitl [Ha] <;> iassumption
    unfold OW; iexists W; iexact HO
  iintro H
  ihave H := (body_out m ρ c) $$ H
  unfold OW staged bodyPost Dat.owesAt Pipeline.owesWithin
  icases H with ⟨HΦ, ⟨%W, HO⟩, Ha, Hb⟩
  isplitl [HΦ]; · iexact HΦ
  isplitl [HO]
  · iexists W
    isplitr; · ipureintro; exact fun _ _ => Or.inl trivial
    iexact HO
  isplitl [Ha]
  · iexists _; isplitr; · (ipureintro; rfl)
    iexact Ha
  iexists _; isplitr; · (ipureintro; rfl)
  iexact Hb

/-! ## The launch -/

theorem ownSemFacts : Pipeline.OwnSemFacts cfg0.spec osem where
  isScoped := by decide +kernel
  inj k k' h := by simpa using csem_injective h
  disj := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, show cfg0.spec = spec0 from rfl, unscopedRest0_eq]
  iintro ⟨Hv, Hlev, Hcr, -, HG⟩
  ihave Hc := (creds (F := F) c) $$ Hcr
  imodintro
  unfold start
  isplitl
  · isplitl [HG]; · iexact HG
    isplitl [Hc]; · iexact Hc
    isplitl [Hv]; · iexists _; iexact Hv
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

theorem phi1_exit (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = Φ₁ m ρ c from rfl]
  unfold Φ₁
  exact BI.Entails.refl _

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What outlives the kernel, read off the final memory. -/
theorem left_read (c : Dev nD) (s' : Phys nD τ sig (Elt F)) :
    iprop(left m ρ c ∗ emp ∗ SI s') ⊢ |={Set.univ}=> iprop(⌜s'.mem.mem ((c : Thread nD τ).loc main_v1) = outAt m ρ c
        ∧ ∀ sm : SemLoc sig, sm.isScoped .tc = false → s'.mem.sem ((c.tc : Thread nD τ), sm) = 0⌝ ∗ (SI s' : sProp 𝕄)) := by
  unfold left
  iintro ⟨⟨Hu, Hv⟩, -, HSI⟩
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro; exact ⟨Buf.eq_of_forall_mem_univ hv, hs⟩
  iexact HSI

/-- What the run ends in: both operands as they were, and every device's result. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outAt m ρ c

/-- From any memory with every counter at zero, every fair run of the program ends, with the operands unchanged, each
    device's result in place, and every counter at zero again. -/
theorem run_main : θ_run defs (onTc (τ := τ) (main (F := F))) (s₀ m ρ) (fun r => (∀ c, Ends m ρ c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := left m ρ) (Z := fun _ => iprop(emp))
    (hX := start_intro m ρ) (hin := phi0_intro m ρ) (hout := phi1_exit m ρ)
    (QY := fun c s => s.mem ((c : Thread nD τ).loc main_v1) = outAt m ρ c
      ∧ ∀ sm : SemLoc sig, sm.isScoped .tc = false → s.sem ((c.tc : Thread nD τ), sm) = 0)
    (hY := left_read m ρ)
    (hQ := fun _ h hs => ⟨fun c => ⟨((h c).1 (0 : Fin 2)).trans ((dats (F := F) m ρ 0 c).arrAt_in (0 : Fin 2) rfl _),
      ((h c).1 (1 : Fin 2)).trans ((dats (F := F) m ρ 0 c).arrAt_in (1 : Fin 2) rfl _), (h c).2.2.1⟩, sem_eq_zero hs fun c => (h c).2.2.2⟩)

end Cert.Work

end
-- ==== Proof.Value.lean ====
/- At exact arithmetic the result on every device is the whole product. Each row block is the sum of the four devices'
   products of their own columns of the left operand with their own rows of the right one, and the whole product's sum
   over 2048 terms is the sum of four sums over 512. -/
module

public import proofs.«01_k».proof.Proof.Launch
public import proofs.«01_k».proof.Proof.Gen.ReferenceIdeal.Run
public import Idealize.ShloMosaic.Lib.MatmulPlain
public import Idealize.ShloMosaic.Lib.Pointwise.Contract
public import Idealize.ShloMosaic.Lib.Layout

@[expose] public section

noncomputable section

namespace Cert.Work

open Cert.KernelIdeal Cert.KernelIdeal.Gen
open Idealize.ShloMosaic Idealize.ShloMosaic.TcCoe
open scoped BigOperators

/-! ## Reading the operands -/

section Read
variable {F : FTy → Type} [FloatOps F]
variable (m : (ℓ : Loc nD τ sig) → Buf (Elt F) ℓ) (ρ : Dev nD → PrngReg) (c : Dev nD)

/-- The left staging buffer is fetched with the whole of the device's left operand. -/
theorem xA_eq : xA m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
/-- And the right one with the whole of its right operand. -/
theorem xB_eq : xB m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- A row within a row block, as a row of the whole. -/
def rowOf (r : Fin 8) (i : Fin 128) : Fin 1024 := ⟨128 * r.val + i.val, by omega⟩

theorem aRows_apply (f : (cc0_stg0_0 : Ref sig .tc).ty.Contents (Elt F)) (r : Fin 8) (i : Fin 128) (k : Fin 512) :
    aRows (F := F) f r (ix2 i k) = f (ix2 (rowOf r i) k) := by
  refine congrArg f (funext fun a => Fin.ext ?_)
  match a with
  | ⟨0, _⟩ => show 128 * r.val + 1 * i.val = 128 * r.val + i.val; omega
  | ⟨1, _⟩ => show 0 + 1 * k.val = k.val; omega
theorem bAll_apply (f : (cc0_stg1_0 : Ref sig .tc).ty.Contents (Elt F)) (k : Fin 512) (j : Fin 1024) :
    bAll (F := F) f (ix2 k j) = f (ix2 k j) := by
  refine congrArg f (funext fun a => Fin.ext ?_)
  match a with
  | ⟨0, _⟩ => show 0 + 1 * k.val = k.val; omega
  | ⟨1, _⟩ => show 0 + 1 * j.val = j.val; omega
theorem blkR_emb (r : Fin 8) (i : Fin 128) (j : Fin 1024) :
    (blkR r).emb (ix2 i j) = ix2 (rowOf r i) j := by
  refine funext fun a => Fin.ext ?_
  match a with
  | ⟨0, _⟩ => show 128 * r.val + 1 * i.val = 128 * r.val + i.val; omega
  | ⟨1, _⟩ => show 0 + 1 * j.val = j.val; omega
end Read

/-! ## Products as sums -/

variable (m : (ℓ : Loc nD τ sig) → Buf (Elt Ideal) ℓ) (ρ : Dev nD → PrngReg)

theorem mm_apply (a : Vec Ideal S128x512 .f32) (b : Vec Ideal S512x1024 .f32) (i : Fin 128) (j : Fin 1024) :
    mm (F := Ideal) a b (ix2 i j) = ∑ k : Fin 512, (a (ix2 i k) : EReal) * b (ix2 k j) := by
  refine (Ideal.matmul_constant_zero_apply dot_S128x512_S512x1024_S128x1024_1_0_0_1_n_n none a b (ix2 i j)).trans ?_
  rw [DotDims.sum_contr₁ dot_S128x512_S512x1024_S128x1024_1_0_0_1_n_n (a := 1) rfl (K := 512) rfl]
  refine Finset.sum_congr rfl fun k _ => congrArg₂ (fun x y : EReal => x * y) (congrArg a (funext fun d => Fin.ext ?_)) (congrArg b (funext fun d => Fin.ext ?_))
  · match d with
    | ⟨0, _⟩ => rfl
    | ⟨1, _⟩ => rfl
  · match d with
    | ⟨0, _⟩ => rfl
    | ⟨1, _⟩ => rfl

/-- The whole product at a row and a column. -/
theorem whole_apply (A : Vec Ideal ⟨2, ![1024, 2048]⟩ .f32) (B : Vec Ideal ⟨2, ![2048, 1024]⟩ .f32) (i j : Fin 1024) :
    (Host.dotGeneral (F := Ideal) (φ₁ := .f32) (φ₂ := .f32) Cert.ReferenceIdeal.dot_S1024x2048_S2048x1024_S1024x1024_1_0_0_1_n_n none A B (ix2 i j) : EReal)
      = ∑ k : Fin 2048, (A (ix2 i k) : EReal) * B (ix2 k j) := by
  refine (Ideal.dotGeneral_apply Cert.ReferenceIdeal.dot_S1024x2048_S2048x1024_S1024x1024_1_0_0_1_n_n none _ A B (ix2 i j)).trans ?_
  rw [DotDims.sum_contr₁ Cert.ReferenceIdeal.dot_S1024x2048_S2048x1024_S1024x1024_1_0_0_1_n_n (a := 1) rfl (K := 2048) rfl]
  refine Finset.sum_congr rfl fun k _ => congrArg₂ (fun x y : EReal => x * y) (congrArg A (funext fun d => Fin.ext ?_)) (congrArg B (funext fun d => Fin.ext ?_))
  · match d with
    | ⟨0, _⟩ => rfl
    | ⟨1, _⟩ => rfl
  · match d with
    | ⟨0, _⟩ => rfl
    | ⟨1, _⟩ => rfl

/-- A sum over 2048 terms, by quarters. -/
theorem sum_quarters (f : Fin 2048 → EReal) :
    ∑ d : Fin 4, ∑ k : Fin 512, f ⟨d.val * 512 + k.val, by omega⟩ = ∑ k : Fin 2048, f k := by
  rw [← Fintype.sum_prod_type']
  refine Fintype.sum_equiv (finProdFinEquiv (m := 4) (n := 512)) _ _ fun x => congrArg f (Fin.ext ?_)
  show x.1.val * 512 + x.2.val = x.2.val + 512 * x.1.val
  omega

/-- A device's left operand, by row and column. -/
def inA (c : Dev nD) (i : Fin 1024) (k : Fin 512) : EReal := (m ((c : Thread nD τ).loc main_arg0) : Vec Ideal S1024x512 .f32) (ix2 i k)
/-- And its right one. -/
def inB (c : Dev nD) (k : Fin 512) (j : Fin 1024) : EReal := (m ((c : Thread nD τ).loc main_arg1) : Vec Ideal S512x1024 .f32) (ix2 k j)

theorem P_apply (c : Dev nD) (r : Fin 8) (i : Fin 128) (j : Fin 1024) :
    P (F := Ideal) m ρ c r (ix2 i j)
      = ∑ k : Fin 512, inA m c (rowOf r i) k * inB m c k j := by
  unfold P
  rw [mm_apply, xA_eq, xB_eq]
  exact Finset.sum_congr rfl fun k _ => by rw [aRows_apply, bAll_apply]; rfl

/-! ## The exchange adds up all four devices -/

theorem sendB_peer : ∀ (j : Fin 4) (c : Dev nD), sendB j (peer (st 0 j) c) = keepB j c := by decide
theorem keepB_peer : ∀ (j : Fin 4) (c : Dev nD), keepB j (peer (st 1 j) c) = keepB j c := by decide
theorem keepB_last : ∀ (j : Fin 4) (c : Dev nD), keepB j (peer (st 2 j) c) = sendB j c := by decide
/-- A chain's first two partners are the two different ones. -/
theorem peers : ∀ (j : Fin 4), toA (st 1 j) = !toA (st 0 j) := by decide

theorem around (g : Dev nD → EReal) (c : Dev nD) : (g c + g (pa c)) + (g (pb c) + g (pa (pb c))) = ∑ d, g d := by
  have h : ∀ c : Fin 4, (c = 0 ∨ c = 1) ∨ (c = 2 ∨ c = 3) := by decide
  rw [show ∑ d, g d = g (0 : Fin 4) + g (1 : Fin 4) + g (2 : Fin 4) + g (3 : Fin 4) from Fin.sum_univ_four g]
  rcases h c with (rfl | rfl) | (rfl | rfl)
  · show (g (0 : Fin 4) + g (1 : Fin 4)) + (g (3 : Fin 4) + g (2 : Fin 4)) = _; abel
  · show (g (1 : Fin 4) + g (0 : Fin 4)) + (g (2 : Fin 4) + g (3 : Fin 4)) = _; abel
  · show (g (2 : Fin 4) + g (3 : Fin 4)) + (g (1 : Fin 4) + g (0 : Fin 4)) = _; abel
  · show (g (3 : Fin 4) + g (2 : Fin 4)) + (g (0 : Fin 4) + g (1 : Fin 4)) = _; abel
theorem pa_pb_comm : ∀ c : Dev nD, pa (pb c) = pb (pa c) := by decide

/-- The same with a chain's partners, in whichever order it meets them. -/
theorem around_peers (g : Dev nD → EReal) (j : Fin 4) (c : Dev nD) :
    (g c + g (peer (st 0 j) c)) + (g (peer (st 1 j) c) + g (peer (st 0 j) (peer (st 1 j) c))) = ∑ d, g d := by
  unfold peer
  rw [peers]
  cases toA (st 0 j)
  · show (g c + g (pb c)) + (g (pa c) + g (pb (pa c))) = _
    rw [← around g c, pa_pb_comm]; abel
  · exact around g c

theorem T2_apply (j : Fin 4) (c : Dev nD) (y : S128x1024.Idx) :
    (T2 (F := Ideal) m ρ j c y : EReal) = ∑ d, (P (F := Ideal) m ρ d (keepB j c) y : EReal) := by
  show ((P (F := Ideal) m ρ c (keepB j c) y : EReal) + P (F := Ideal) m ρ (peer (st 0 j) c) (sendB j (peer (st 0 j) c)) y)
    + (P (F := Ideal) m ρ (peer (st 1 j) c) (keepB j (peer (st 1 j) c)) y
      + P (F := Ideal) m ρ (peer (st 0 j) (peer (st 1 j) c)) (sendB j (peer (st 0 j) (peer (st 1 j) c))) y) = _
  rw [sendB_peer, sendB_peer, keepB_peer]
  exact around_peers (fun d => P (F := Ideal) m ρ d (keepB j c) y) j c
theorem R3_apply (j : Fin 4) (c : Dev nD) (y : S128x1024.Idx) :
    (R3 (F := Ideal) m ρ j c y : EReal) = ∑ d, (P (F := Ideal) m ρ d (sendB j c) y : EReal) := by
  show (T2 (F := Ideal) m ρ j (peer (st 2 j) c) y : EReal) = _
  rw [T2_apply, keepB_last]
theorem fin_apply (i : Fin 8) (c : Dev nD) (y : S128x1024.Idx) :
    (fin (F := Ideal) m ρ i c y : EReal) = ∑ d, (P (F := Ideal) m ρ d (blkOf i c) y : EReal) := by
  unfold fin blkOf
  split
  · exact T2_apply m ρ _ c y
  · exact R3_apply m ρ _ c y

/-- Every index of the result lies in a row block. -/
theorem in_block (x : S1024x1024.Idx) : ∃ (r : Fin 8) (i : Fin 128) (j : Fin 1024), x = ix2 (rowOf r i) j := by
  have h0 : (x 0).val < 1024 := (x 0).isLt
  refine ⟨⟨(x 0).val / 128, by omega⟩, ⟨(x 0).val % 128, by omega⟩, x 1, (eq_ix2 x).trans ?_⟩
  refine congrArg (fun a => ix2 a (x 1)) (Fin.ext ?_)
  show (x 0).val = 128 * ((x 0).val / 128) + (x 0).val % 128
  omega

/-- What a device ends with, at a row and a column: the sum of every device's product. -/
theorem outAt_apply (c : Dev nD) (r : Fin 8) (i : Fin 128) (j : Fin 1024) :
    (show EReal from outAt (F := Ideal) m ρ c (ix2 (rowOf r i) j))
      = ∑ d : Dev nD, ∑ k : Fin 512, inA m d (rowOf r i) k * inB m d k j := by
  unfold outAt
  rw [← blkR_emb, glueB_emb]
  rw [fin_apply, blkOf_copyOf]
  exact Finset.sum_congr rfl fun d _ => P_apply m ρ d r i j

/-- Where every device holds its columns of `A` and its rows of `B`, each ends with the whole product. -/
theorem outAt_whole (A : Vec Ideal ⟨2, ![1024, 2048]⟩ .f32) (B : Vec Ideal ⟨2, ![2048, 1024]⟩ .f32)
    (hA : ∀ d : Dev nD, m ((d : Thread nD τ).loc main_arg0) = Layout.block ⟨2, ![1024, 512]⟩ ⟨2, ![1024, 2048]⟩ 1 4 d A)
    (hB : ∀ d : Dev nD, m ((d : Thread nD τ).loc main_arg1) = Layout.block ⟨2, ![512, 1024]⟩ ⟨2, ![2048, 1024]⟩ 0 4 d B) (c : Dev nD) :
    outAt (F := Ideal) m ρ c
      = Host.dotGeneral (F := Ideal) (φ₁ := .f32) (φ₂ := .f32) Cert.ReferenceIdeal.dot_S1024x2048_S2048x1024_S1024x1024_1_0_0_1_n_n none A B := by
  refine funext fun x => ?_
  obtain ⟨r, i, j, rfl⟩ := in_block x
  refine (outAt_apply m ρ c r i j).trans (Eq.trans ?_ (whole_apply A B (rowOf r i) j).symm)
  rw [← sum_quarters]
  refine Finset.sum_congr rfl fun d _ => Finset.sum_congr rfl fun k _ => ?_
  unfold inA inB
  rw [hA, hB]
  refine congrArg₂ (fun x y : EReal => x * y) (congrArg A (funext fun a => Fin.ext ?_)) (congrArg B (funext fun a => Fin.ext ?_))
  · match a with
    | ⟨0, _⟩ => rfl
    | ⟨1, _⟩ => rfl
  · match a with
    | ⟨0, _⟩ => rfl
    | ⟨1, _⟩ => rfl

end Cert.Work

end
-- ==== Proof.lean ====
/- The claims, put together: the run of the kernel read at bit-exact and at exact arithmetic, the run of the reference,
   and the value both end with. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem
open Cert.Work (run_main outAt outAt_whole)

/-- Over any float values the kernel runs, leaves its arguments as they were, and every counter at zero. -/
theorem frames {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (run_main (F := F) m ρ)

/-- The two printings of the kernel have the same bodies, -/
theorem bodies_eq {F : FTy → Type} [FloatOps F] : Cert.Kernel.defs₀ (F := F) = Cert.KernelIdeal.defs₀ (F := F) := by
  refine congrArg Defs.onTc (funext fun l => funext fun a => ?_)
  match l, a with
  | ⟨0, _⟩, (_, _) => rfl
/-- and so the same table of bodies. -/
theorem defs_eq {F : FTy → Type} [FloatOps F] : Cert.Kernel.defs (F := F) = Cert.KernelIdeal.defs (F := F) :=
  congrArg (Pipeline.defs (Cert.KernelIdeal.pcfgs (F := F))) bodies_eq

/-- The kernel at bit-exact arithmetic. -/
theorem frame_kernel : Cert.quiescent_Kernel := by
  intro m ρ _
  rw [defs_eq]
  exact frames (F := Bits) m ρ

/-- The kernel at exact arithmetic. -/
theorem frame_kernelIdeal : Cert.quiescent_KernelIdeal := fun m ρ _ => frames (F := Ideal) m ρ

/-- And the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's. -/
theorem algebraic : Cert.algebraic_KernelIdeal_ReferenceIdeal := by
  intro m ρ m' ρ' _ hab
  refine ⟨_, (θ_run Cert.KernelIdeal.defs _ _).mono (fun _ h c => ⟨(h.1 c).2.2.trans ?_, (h.1 c).1, (h.1 c).2.1⟩) (run_main (F := Ideal) m ρ),
    (θ_run Cert.ReferenceIdeal.defs _ _).mono (fun _ h => h 0) (Cert.ReferenceIdeal.Value.run (F := Ideal) m' ρ')⟩
  exact outAt_whole m ρ _ _ (fun d => (hab d).1) (fun d => (hab d).2) c

theorem claim : Cert.Claim := ⟨Cert.Kernel.Gen.facts, Cert.KernelIdeal.Gen.facts, Cert.ReferenceIdeal.Gen.facts,
  frame_kernel, frame_kernelIdeal, frame_reference, trivial, algebraic⟩

end Cert.Proof

end
